-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_rows [hPre_fixed_rows : Cert.Pre_fixed_rows.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_rows [hPre_fixed_rows : Cert.Pre_fixed_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fixed_rows [hKernelIdeal : Cert.KernelIdeal.Facts] [hPre_fixed_rows : Cert.Pre_fixed_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fixed_rows [hReferenceIdeal : Cert.ReferenceIdeal.Facts] [hPre_fixed_rows : Cert.Pre_fixed_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_fixed_rows [hKernelIdeal : Cert.KernelIdeal.Facts] [hReferenceIdeal : Cert.ReferenceIdeal.Facts] [hPre_fixed_rows : Cert.Pre_fixed_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fixed_rows : Cert.Pre_fixed_rows.Facts),
    quiescent_Kernel (hKernel := hKernel)
    ∧ quiescent_KernelIdeal (hKernelIdeal := hKernelIdeal)
    ∧ quiescent_KernelIdeal_pre_fixed_rows (hKernelIdeal := hKernelIdeal) (hPre_fixed_rows := hPre_fixed_rows)
    ∧ quiescent_ReferenceIdeal (hReferenceIdeal := hReferenceIdeal)
    ∧ quiescent_ReferenceIdeal_pre_fixed_rows (hReferenceIdeal := hReferenceIdeal) (hPre_fixed_rows := hPre_fixed_rows)
    ∧ preserves_Kernel_KernelIdeal
    ∧ algebraic_KernelIdeal_ReferenceIdeal_pre_fixed_rows (hKernelIdeal := hKernelIdeal) (hReferenceIdeal := hReferenceIdeal) (hPre_fixed_rows := hPre_fixed_rows)
-- ==== Pre_fixed_rows.lean ====
abbrev S4096x4096 : Shape := ⟨2, ![4096, 4096]⟩
abbrev S4096 : Shape := ⟨1, ![4096]⟩
abbrev S_ : Shape := ⟨0, ![]⟩

class Facts : Prop where
  reducesTo_S4096_S_d0 : S4096.ReducesTo [0] S_
  h_S_ : 0 < S_.numel

variable [Facts]

noncomputable abbrev lit0t0_0 (i : Nat) : BitVec 32 := match i % 128 with
  | 0 => 600#32
  | 1 => 7676#32
  | 2 => 4474#32
  | 3 => 10270#32
  | 4 => 2625#32
  | 5 => 9045#32
  | 6 => 6155#32
  | 7 => 11359#32
  | 8 => 1635#32
  | 9 => 8379#32
  | 10 => 5335#32
  | 11 => 10831#32
  | 12 => 3571#32
  | 13 => 9675#32
  | 14 => 6935#32
  | 15 => 11855#32
  | 16 => 812#32
  | 17 => 7888#32
  | 18 => 4686#32
  | 19 => 10482#32
  | 20 => 2837#32
  | 21 => 9257#32
  | 22 => 6367#32
  | 23 => 11571#32
  | 24 => 1847#32
  | 25 => 8591#32
  | 26 => 5547#32
  | 27 => 11043#32
  | 28 => 3783#32
  | 29 => 9887#32
  | 30 => 7147#32
  | 31 => 12067#32
  | 32 => 714#32
  | 33 => 7790#32
  | 34 => 4588#32
  | 35 => 10384#32
  | 36 => 2739#32
  | 37 => 9159#32
  | 38 => 6269#32
  | 39 => 11473#32
  | 40 => 1749#32
  | 41 => 8493#32
  | 42 => 5449#32
  | 43 => 10945#32
  | 44 => 3685#32
  | 45 => 9789#32
  | 46 => 7049#32
  | 47 => 11969#32
  | 48 => 894#32
  | 49 => 7970#32
  | 50 => 4768#32
  | 51 => 10564#32
  | 52 => 2919#32
  | 53 => 9339#32
  | 54 => 6449#32
  | 55 => 11653#32
  | 56 => 1929#32
  | 57 => 8673#32
  | 58 => 5629#32
  | 59 => 11125#32
  | 60 => 3865#32
  | 61 => 9969#32
  | 62 => 7229#32
  | 63 => 12149#32
  | 64 => 659#32
  | 65 => 7735#32
  | 66 => 4533#32
  | 67 => 10329#32
  | 68 => 2684#32
  | 69 => 9104#32
  | 70 => 6214#32
  | 71 => 11418#32
  | 72 => 1694#32
  | 73 => 8438#32
  | 74 => 5394#32
  | 75 => 10890#32
  | 76 => 3630#32
  | 77 => 9734#32
  | 78 => 6994#32
  | 79 => 11914#32
  | 80 => 855#32
  | 81 => 7931#32
  | 82 => 4729#32
  | 83 => 10525#32
  | 84 => 2880#32
  | 85 => 9300#32
  | 86 => 6410#32
  | 87 => 11614#32
  | 88 => 1890#32
  | 89 => 8634#32
  | 90 => 5590#32
  | 91 => 11086#32
  | 92 => 3826#32
  | 93 => 9930#32
  | 94 => 7190#32
  | 95 => 12110#32
  | 96 => 765#32
  | 97 => 7841#32
  | 98 => 4639#32
  | 99 => 10435#32
  | 100 => 2790#32
  | 101 => 9210#32
  | 102 => 6320#32
  | 103 => 11524#32
  | 104 => 1800#32
  | 105 => 8544#32
  | 106 => 5500#32
  | 107 => 10996#32
  | 108 => 3736#32
  | 109 => 9840#32
  | 110 => 7100#32
  | 111 => 12020#32
  | 112 => 929#32
  | 113 => 8005#32
  | 114 => 4803#32
  | 115 => 10599#32
  | 116 => 2954#32
  | 117 => 9374#32
  | 118 => 6484#32
  | 119 => 11688#32
  | 120 => 1964#32
  | 121 => 8708#32
  | 122 => 5664#32
  | 123 => 11160#32
  | 124 => 3900#32
  | 125 => 10004#32
  | 126 => 7264#32
  | 127 => 12184#32
  | _ => 0#32

noncomputable abbrev lit0t0_1 (i : Nat) : BitVec 32 := match i % 128 with
  | 0 => 630#32
  | 1 => 7706#32
  | 2 => 4504#32
  | 3 => 10300#32
  | 4 => 2655#32
  | 5 => 9075#32
  | 6 => 6185#32
  | 7 => 11389#32
  | 8 => 1665#32
  | 9 => 8409#32
  | 10 => 5365#32
  | 11 => 10861#32
  | 12 => 3601#32
  | 13 => 9705#32
  | 14 => 6965#32
  | 15 => 11885#32
  | 16 => 834#32
  | 17 => 7910#32
  | 18 => 4708#32
  | 19 => 10504#32
  | 20 => 2859#32
  | 21 => 9279#32
  | 22 => 6389#32
  | 23 => 11593#32
  | 24 => 1869#32
  | 25 => 8613#32
  | 26 => 5569#32
  | 27 => 11065#32
  | 28 => 3805#32
  | 29 => 9909#32
  | 30 => 7169#32
  | 31 => 12089#32
  | 32 => 740#32
  | 33 => 7816#32
  | 34 => 4614#32
  | 35 => 10410#32
  | 36 => 2765#32
  | 37 => 9185#32
  | 38 => 6295#32
  | 39 => 11499#32
  | 40 => 1775#32
  | 41 => 8519#32
  | 42 => 5475#32
  | 43 => 10971#32
  | 44 => 3711#32
  | 45 => 9815#32
  | 46 => 7075#32
  | 47 => 11995#32
  | 48 => 912#32
  | 49 => 7988#32
  | 50 => 4786#32
  | 51 => 10582#32
  | 52 => 2937#32
  | 53 => 9357#32
  | 54 => 6467#32
  | 55 => 11671#32
  | 56 => 1947#32
  | 57 => 8691#32
  | 58 => 5647#32
  | 59 => 11143#32
  | 60 => 3883#32
  | 61 => 9987#32
  | 62 => 7247#32
  | 63 => 12167#32
  | 64 => 687#32
  | 65 => 7763#32
  | 66 => 4561#32
  | 67 => 10357#32
  | 68 => 2712#32
  | 69 => 9132#32
  | 70 => 6242#32
  | 71 => 11446#32
  | 72 => 1722#32
  | 73 => 8466#32
  | 74 => 5422#32
  | 75 => 10918#32
  | 76 => 3658#32
  | 77 => 9762#32
  | 78 => 7022#32
  | 79 => 11942#32
  | 80 => 875#32
  | 81 => 7951#32
  | 82 => 4749#32
  | 83 => 10545#32
  | 84 => 2900#32
  | 85 => 9320#32
  | 86 => 6430#32
  | 87 => 11634#32
  | 88 => 1910#32
  | 89 => 8654#32
  | 90 => 5610#32
  | 91 => 11106#32
  | 92 => 3846#32
  | 93 => 9950#32
  | 94 => 7210#32
  | 95 => 12130#32
  | 96 => 789#32
  | 97 => 7865#32
  | 98 => 4663#32
  | 99 => 10459#32
  | 100 => 2814#32
  | 101 => 9234#32
  | 102 => 6344#32
  | 103 => 11548#32
  | 104 => 1824#32
  | 105 => 8568#32
  | 106 => 5524#32
  | 107 => 11020#32
  | 108 => 3760#32
  | 109 => 9864#32
  | 110 => 7124#32
  | 111 => 12044#32
  | 112 => 945#32
  | 113 => 8021#32
  | 114 => 4819#32
  | 115 => 10615#32
  | 116 => 2970#32
  | 117 => 9390#32
  | 118 => 6500#32
  | 119 => 11704#32
  | 120 => 1980#32
  | 121 => 8724#32
  | 122 => 5680#32
  | 123 => 11176#32
  | 124 => 3916#32
  | 125 => 10020#32
  | 126 => 7280#32
  | 127 => 12200#32
  | _ => 0#32

noncomputable abbrev lit0t0_2 (i : Nat) : BitVec 32 := match i % 128 with
  | 0 => 608#32
  | 1 => 7684#32
  | 2 => 4482#32
  | 3 => 10278#32
  | 4 => 2633#32
  | 5 => 9053#32
  | 6 => 6163#32
  | 7 => 11367#32
  | 8 => 1643#32
  | 9 => 8387#32
  | 10 => 5343#32
  | 11 => 10839#32
  | 12 => 3579#32
  | 13 => 9683#32
  | 14 => 6943#32
  | 15 => 11863#32
  | 16 => 820#32
  | 17 => 7896#32
  | 18 => 4694#32
  | 19 => 10490#32
  | 20 => 2845#32
  | 21 => 9265#32
  | 22 => 6375#32
  | 23 => 11579#32
  | 24 => 1855#32
  | 25 => 8599#32
  | 26 => 5555#32
  | 27 => 11051#32
  | 28 => 3791#32
  | 29 => 9895#32
  | 30 => 7155#32
  | 31 => 12075#32
  | 32 => 722#32
  | 33 => 7798#32
  | 34 => 4596#32
  | 35 => 10392#32
  | 36 => 2747#32
  | 37 => 9167#32
  | 38 => 6277#32
  | 39 => 11481#32
  | 40 => 1757#32
  | 41 => 8501#32
  | 42 => 5457#32
  | 43 => 10953#32
  | 44 => 3693#32
  | 45 => 9797#32
  | 46 => 7057#32
  | 47 => 11977#32
  | 48 => 902#32
  | 49 => 7978#32
  | 50 => 4776#32
  | 51 => 10572#32
  | 52 => 2927#32
  | 53 => 9347#32
  | 54 => 6457#32
  | 55 => 11661#32
  | 56 => 1937#32
  | 57 => 8681#32
  | 58 => 5637#32
  | 59 => 11133#32
  | 60 => 3873#32
  | 61 => 9977#32
  | 62 => 7237#32
  | 63 => 12157#32
  | 64 => 667#32
  | 65 => 7743#32
  | 66 => 4541#32
  | 67 => 10337#32
  | 68 => 2692#32
  | 69 => 9112#32
  | 70 => 6222#32
  | 71 => 11426#32
  | 72 => 1702#32
  | 73 => 8446#32
  | 74 => 5402#32
  | 75 => 10898#32
  | 76 => 3638#32
  | 77 => 9742#32
  | 78 => 7002#32
  | 79 => 11922#32
  | 80 => 863#32
  | 81 => 7939#32
  | 82 => 4737#32
  | 83 => 10533#32
  | 84 => 2888#32
  | 85 => 9308#32
  | 86 => 6418#32
  | 87 => 11622#32
  | 88 => 1898#32
  | 89 => 8642#32
  | 90 => 5598#32
  | 91 => 11094#32
  | 92 => 3834#32
  | 93 => 9938#32
  | 94 => 7198#32
  | 95 => 12118#32
  | 96 => 773#32
  | 97 => 7849#32
  | 98 => 4647#32
  | 99 => 10443#32
  | 100 => 2798#32
  | 101 => 9218#32
  | 102 => 6328#32
  | 103 => 11532#32
  | 104 => 1808#32
  | 105 => 8552#32
  | 106 => 5508#32
  | 107 => 11004#32
  | 108 => 3744#32
  | 109 => 9848#32
  | 110 => 7108#32
  | 111 => 12028#32
  | 112 => 937#32
  | 113 => 8013#32
  | 114 => 4811#32
  | 115 => 10607#32
  | 116 => 2962#32
  | 117 => 9382#32
  | 118 => 6492#32
  | 119 => 11696#32
  | 120 => 1972#32
  | 121 => 8716#32
  | 122 => 5672#32
  | 123 => 11168#32
  | 124 => 3908#32
  | 125 => 10012#32
  | 126 => 7272#32
  | 127 => 12192#32
  | _ => 0#32

noncomputable abbrev lit0t0_3 (i : Nat) : BitVec 32 := match i % 128 with
  | 0 => 638#32
  | 1 => 7714#32
  | 2 => 4512#32
  | 3 => 10308#32
  | 4 => 2663#32
  | 5 => 9083#32
  | 6 => 6193#32
  | 7 => 11397#32
  | 8 => 1673#32
  | 9 => 8417#32
  | 10 => 5373#32
  | 11 => 10869#32
  | 12 => 3609#32
  | 13 => 9713#32
  | 14 => 6973#32
  | 15 => 11893#32
  | 16 => 842#32
  | 17 => 7918#32
  | 18 => 4716#32
  | 19 => 10512#32
  | 20 => 2867#32
  | 21 => 9287#32
  | 22 => 6397#32
  | 23 => 11601#32
  | 24 => 1877#32
  | 25 => 8621#32
  | 26 => 5577#32
  | 27 => 11073#32
  | 28 => 3813#32
  | 29 => 9917#32
  | 30 => 7177#32
  | 31 => 12097#32
  | 32 => 748#32
  | 33 => 7824#32
  | 34 => 4622#32
  | 35 => 10418#32
  | 36 => 2773#32
  | 37 => 9193#32
  | 38 => 6303#32
  | 39 => 11507#32
  | 40 => 1783#32
  | 41 => 8527#32
  | 42 => 5483#32
  | 43 => 10979#32
  | 44 => 3719#32
  | 45 => 9823#32
  | 46 => 7083#32
  | 47 => 12003#32
  | 48 => 920#32
  | 49 => 7996#32
  | 50 => 4794#32
  | 51 => 10590#32
  | 52 => 2945#32
  | 53 => 9365#32
  | 54 => 6475#32
  | 55 => 11679#32
  | 56 => 1955#32
  | 57 => 8699#32
  | 58 => 5655#32
  | 59 => 11151#32
  | 60 => 3891#32
  | 61 => 9995#32
  | 62 => 7255#32
  | 63 => 12175#32
  | 64 => 695#32
  | 65 => 7771#32
  | 66 => 4569#32
  | 67 => 10365#32
  | 68 => 2720#32
  | 69 => 9140#32
  | 70 => 6250#32
  | 71 => 11454#32
  | 72 => 1730#32
  | 73 => 8474#32
  | 74 => 5430#32
  | 75 => 10926#32
  | 76 => 3666#32
  | 77 => 9770#32
  | 78 => 7030#32
  | 79 => 11950#32
  | 80 => 883#32
  | 81 => 7959#32
  | 82 => 4757#32
  | 83 => 10553#32
  | 84 => 2908#32
  | 85 => 9328#32
  | 86 => 6438#32
  | 87 => 11642#32
  | 88 => 1918#32
  | 89 => 8662#32
  | 90 => 5618#32
  | 91 => 11114#32
  | 92 => 3854#32
  | 93 => 9958#32
  | 94 => 7218#32
  | 95 => 12138#32
  | 96 => 797#32
  | 97 => 7873#32
  | 98 => 4671#32
  | 99 => 10467#32
  | 100 => 2822#32
  | 101 => 9242#32
  | 102 => 6352#32
  | 103 => 11556#32
  | 104 => 1832#32
  | 105 => 8576#32
  | 106 => 5532#32
  | 107 => 11028#32
  | 108 => 3768#32
  | 109 => 9872#32
  | 110 => 7132#32
  | 111 => 12052#32
  | 112 => 953#32
  | 113 => 8029#32
  | 114 => 4827#32
  | 115 => 10623#32
  | 116 => 2978#32
  | 117 => 9398#32
  | 118 => 6508#32
  | 119 => 11712#32
  | 120 => 1988#32
  | 121 => 8732#32
  | 122 => 5688#32
  | 123 => 11184#32
  | 124 => 3924#32
  | 125 => 10028#32
  | 126 => 7288#32
  | 127 => 12208#32
  | _ => 0#32

noncomputable abbrev lit0t0_4 (i : Nat) : BitVec 32 := match i % 128 with
  | 0 => 604#32
  | 1 => 7680#32
  | 2 => 4478#32
  | 3 => 10274#32
  | 4 => 2629#32
  | 5 => 9049#32
  | 6 => 6159#32
  | 7 => 11363#32
  | 8 => 1639#32
  | 9 => 8383#32
  | 10 => 5339#32
  | 11 => 10835#32
  | 12 => 3575#32
  | 13 => 9679#32
  | 14 => 6939#32
  | 15 => 11859#32
  | 16 => 816#32
  | 17 => 7892#32
  | 18 => 4690#32
  | 19 => 10486#32
  | 20 => 2841#32
  | 21 => 9261#32
  | 22 => 6371#32
  | 23 => 11575#32
  | 24 => 1851#32
  | 25 => 8595#32
  | 26 => 5551#32
  | 27 => 11047#32
  | 28 => 3787#32
  | 29 => 9891#32
  | 30 => 7151#32
  | 31 => 12071#32
  | 32 => 718#32
  | 33 => 7794#32
  | 34 => 4592#32
  | 35 => 10388#32
  | 36 => 2743#32
  | 37 => 9163#32
  | 38 => 6273#32
  | 39 => 11477#32
  | 40 => 1753#32
  | 41 => 8497#32
  | 42 => 5453#32
  | 43 => 10949#32
  | 44 => 3689#32
  | 45 => 9793#32
  | 46 => 7053#32
  | 47 => 11973#32
  | 48 => 898#32
  | 49 => 7974#32
  | 50 => 4772#32
  | 51 => 10568#32
  | 52 => 2923#32
  | 53 => 9343#32
  | 54 => 6453#32
  | 55 => 11657#32
  | 56 => 1933#32
  | 57 => 8677#32
  | 58 => 5633#32
  | 59 => 11129#32
  | 60 => 3869#32
  | 61 => 9973#32
  | 62 => 7233#32
  | 63 => 12153#32
  | 64 => 663#32
  | 65 => 7739#32
  | 66 => 4537#32
  | 67 => 10333#32
  | 68 => 2688#32
  | 69 => 9108#32
  | 70 => 6218#32
  | 71 => 11422#32
  | 72 => 1698#32
  | 73 => 8442#32
  | 74 => 5398#32
  | 75 => 10894#32
  | 76 => 3634#32
  | 77 => 9738#32
  | 78 => 6998#32
  | 79 => 11918#32
  | 80 => 859#32
  | 81 => 7935#32
  | 82 => 4733#32
  | 83 => 10529#32
  | 84 => 2884#32
  | 85 => 9304#32
  | 86 => 6414#32
  | 87 => 11618#32
  | 88 => 1894#32
  | 89 => 8638#32
  | 90 => 5594#32
  | 91 => 11090#32
  | 92 => 3830#32
  | 93 => 9934#32
  | 94 => 7194#32
  | 95 => 12114#32
  | 96 => 769#32
  | 97 => 7845#32
  | 98 => 4643#32
  | 99 => 10439#32
  | 100 => 2794#32
  | 101 => 9214#32
  | 102 => 6324#32
  | 103 => 11528#32
  | 104 => 1804#32
  | 105 => 8548#32
  | 106 => 5504#32
  | 107 => 11000#32
  | 108 => 3740#32
  | 109 => 9844#32
  | 110 => 7104#32
  | 111 => 12024#32
  | 112 => 933#32
  | 113 => 8009#32
  | 114 => 4807#32
  | 115 => 10603#32
  | 116 => 2958#32
  | 117 => 9378#32
  | 118 => 6488#32
  | 119 => 11692#32
  | 120 => 1968#32
  | 121 => 8712#32
  | 122 => 5668#32
  | 123 => 11164#32
  | 124 => 3904#32
  | 125 => 10008#32
  | 126 => 7268#32
  | 127 => 12188#32
  | _ => 0#32

noncomputable abbrev lit0t0_5 (i : Nat) : BitVec 32 := match i % 128 with
  | 0 => 634#32
  | 1 => 7710#32
  | 2 => 4508#32
  | 3 => 10304#32
  | 4 => 2659#32
  | 5 => 9079#32
  | 6 => 6189#32
  | 7 => 11393#32
  | 8 => 1669#32
  | 9 => 8413#32
  | 10 => 5369#32
  | 11 => 10865#32
  | 12 => 3605#32
  | 13 => 9709#32
  | 14 => 6969#32
  | 15 => 11889#32
  | 16 => 838#32
  | 17 => 7914#32
  | 18 => 4712#32
  | 19 => 10508#32
  | 20 => 2863#32
  | 21 => 9283#32
  | 22 => 6393#32
  | 23 => 11597#32
  | 24 => 1873#32
  | 25 => 8617#32
  | 26 => 5573#32
  | 27 => 11069#32
  | 28 => 3809#32
  | 29 => 9913#32
  | 30 => 7173#32
  | 31 => 12093#32
  | 32 => 744#32
  | 33 => 7820#32
  | 34 => 4618#32
  | 35 => 10414#32
  | 36 => 2769#32
  | 37 => 9189#32
  | 38 => 6299#32
  | 39 => 11503#32
  | 40 => 1779#32
  | 41 => 8523#32
  | 42 => 5479#32
  | 43 => 10975#32
  | 44 => 3715#32
  | 45 => 9819#32
  | 46 => 7079#32
  | 47 => 11999#32
  | 48 => 916#32
  | 49 => 7992#32
  | 50 => 4790#32
  | 51 => 10586#32
  | 52 => 2941#32
  | 53 => 9361#32
  | 54 => 6471#32
  | 55 => 11675#32
  | 56 => 1951#32
  | 57 => 8695#32
  | 58 => 5651#32
  | 59 => 11147#32
  | 60 => 3887#32
  | 61 => 9991#32
  | 62 => 7251#32
  | 63 => 12171#32
  | 64 => 691#32
  | 65 => 7767#32
  | 66 => 4565#32
  | 67 => 10361#32
  | 68 => 2716#32
  | 69 => 9136#32
  | 70 => 6246#32
  | 71 => 11450#32
  | 72 => 1726#32
  | 73 => 8470#32
  | 74 => 5426#32
  | 75 => 10922#32
  | 76 => 3662#32
  | 77 => 9766#32
  | 78 => 7026#32
  | 79 => 11946#32
  | 80 => 879#32
  | 81 => 7955#32
  | 82 => 4753#32
  | 83 => 10549#32
  | 84 => 2904#32
  | 85 => 9324#32
  | 86 => 6434#32
  | 87 => 11638#32
  | 88 => 1914#32
  | 89 => 8658#32
  | 90 => 5614#32
  | 91 => 11110#32
  | 92 => 3850#32
  | 93 => 9954#32
  | 94 => 7214#32
  | 95 => 12134#32
  | 96 => 793#32
  | 97 => 7869#32
  | 98 => 4667#32
  | 99 => 10463#32
  | 100 => 2818#32
  | 101 => 9238#32
  | 102 => 6348#32
  | 103 => 11552#32
  | 104 => 1828#32
  | 105 => 8572#32
  | 106 => 5528#32
  | 107 => 11024#32
  | 108 => 3764#32
  | 109 => 9868#32
  | 110 => 7128#32
  | 111 => 12048#32
  | 112 => 949#32
  | 113 => 8025#32
  | 114 => 4823#32
  | 115 => 10619#32
  | 116 => 2974#32
  | 117 => 9394#32
  | 118 => 6504#32
  | 119 => 11708#32
  | 120 => 1984#32
  | 121 => 8728#32
  | 122 => 5684#32
  | 123 => 11180#32
  | 124 => 3920#32
  | 125 => 10024#32
  | 126 => 7284#32
  | 127 => 12204#32
  | _ => 0#32

noncomputable abbrev lit0t0_6 (i : Nat) : BitVec 32 := match i % 128 with
  | 0 => 612#32
  | 1 => 7688#32
  | 2 => 4486#32
  | 3 => 10282#32
  | 4 => 2637#32
  | 5 => 9057#32
  | 6 => 6167#32
  | 7 => 11371#32
  | 8 => 1647#32
  | 9 => 8391#32
  | 10 => 5347#32
  | 11 => 10843#32
  | 12 => 3583#32
  | 13 => 9687#32
  | 14 => 6947#32
  | 15 => 11867#32
  | 16 => 824#32
  | 17 => 7900#32
  | 18 => 4698#32
  | 19 => 10494#32
  | 20 => 2849#32
  | 21 => 9269#32
  | 22 => 6379#32
  | 23 => 11583#32
  | 24 => 1859#32
  | 25 => 8603#32
  | 26 => 5559#32
  | 27 => 11055#32
  | 28 => 3795#32
  | 29 => 9899#32
  | 30 => 7159#32
  | 31 => 12079#32
  | 32 => 726#32
  | 33 => 7802#32
  | 34 => 4600#32
  | 35 => 10396#32
  | 36 => 2751#32
  | 37 => 9171#32
  | 38 => 6281#32
  | 39 => 11485#32
  | 40 => 1761#32
  | 41 => 8505#32
  | 42 => 5461#32
  | 43 => 10957#32
  | 44 => 3697#32
  | 45 => 9801#32
  | 46 => 7061#32
  | 47 => 11981#32
  | 48 => 906#32
  | 49 => 7982#32
  | 50 => 4780#32
  | 51 => 10576#32
  | 52 => 2931#32
  | 53 => 9351#32
  | 54 => 6461#32
  | 55 => 11665#32
  | 56 => 1941#32
  | 57 => 8685#32
  | 58 => 5641#32
  | 59 => 11137#32
  | 60 => 3877#32
  | 61 => 9981#32
  | 62 => 7241#32
  | 63 => 12161#32
  | 64 => 671#32
  | 65 => 7747#32
  | 66 => 4545#32
  | 67 => 10341#32
  | 68 => 2696#32
  | 69 => 9116#32
  | 70 => 6226#32
  | 71 => 11430#32
  | 72 => 1706#32
  | 73 => 8450#32
  | 74 => 5406#32
  | 75 => 10902#32
  | 76 => 3642#32
  | 77 => 9746#32
  | 78 => 7006#32
  | 79 => 11926#32
  | 80 => 867#32
  | 81 => 7943#32
  | 82 => 4741#32
  | 83 => 10537#32
  | 84 => 2892#32
  | 85 => 9312#32
  | 86 => 6422#32
  | 87 => 11626#32
  | 88 => 1902#32
  | 89 => 8646#32
  | 90 => 5602#32
  | 91 => 11098#32
  | 92 => 3838#32
  | 93 => 9942#32
  | 94 => 7202#32
  | 95 => 12122#32
  | 96 => 777#32
  | 97 => 7853#32
  | 98 => 4651#32
  | 99 => 10447#32
  | 100 => 2802#32
  | 101 => 9222#32
  | 102 => 6332#32
  | 103 => 11536#32
  | 104 => 1812#32
  | 105 => 8556#32
  | 106 => 5512#32
  | 107 => 11008#32
  | 108 => 3748#32
  | 109 => 9852#32
  | 110 => 7112#32
  | 111 => 12032#32
  | 112 => 941#32
  | 113 => 8017#32
  | 114 => 4815#32
  | 115 => 10611#32
  | 116 => 2966#32
  | 117 => 9386#32
  | 118 => 6496#32
  | 119 => 11700#32
  | 120 => 1976#32
  | 121 => 8720#32
  | 122 => 5676#32
  | 123 => 11172#32
  | 124 => 3912#32
  | 125 => 10016#32
  | 126 => 7276#32
  | 127 => 12196#32
  | _ => 0#32

noncomputable abbrev lit0t0_7 (i : Nat) : BitVec 32 := match i % 128 with
  | 0 => 642#32
  | 1 => 7718#32
  | 2 => 4516#32
  | 3 => 10312#32
  | 4 => 2667#32
  | 5 => 9087#32
  | 6 => 6197#32
  | 7 => 11401#32
  | 8 => 1677#32
  | 9 => 8421#32
  | 10 => 5377#32
  | 11 => 10873#32
  | 12 => 3613#32
  | 13 => 9717#32
  | 14 => 6977#32
  | 15 => 11897#32
  | 16 => 846#32
  | 17 => 7922#32
  | 18 => 4720#32
  | 19 => 10516#32
  | 20 => 2871#32
  | 21 => 9291#32
  | 22 => 6401#32
  | 23 => 11605#32
  | 24 => 1881#32
  | 25 => 8625#32
  | 26 => 5581#32
  | 27 => 11077#32
  | 28 => 3817#32
  | 29 => 9921#32
  | 30 => 7181#32
  | 31 => 12101#32
  | 32 => 752#32
  | 33 => 7828#32
  | 34 => 4626#32
  | 35 => 10422#32
  | 36 => 2777#32
  | 37 => 9197#32
  | 38 => 6307#32
  | 39 => 11511#32
  | 40 => 1787#32
  | 41 => 8531#32
  | 42 => 5487#32
  | 43 => 10983#32
  | 44 => 3723#32
  | 45 => 9827#32
  | 46 => 7087#32
  | 47 => 12007#32
  | 48 => 924#32
  | 49 => 8000#32
  | 50 => 4798#32
  | 51 => 10594#32
  | 52 => 2949#32
  | 53 => 9369#32
  | 54 => 6479#32
  | 55 => 11683#32
  | 56 => 1959#32
  | 57 => 8703#32
  | 58 => 5659#32
  | 59 => 11155#32
  | 60 => 3895#32
  | 61 => 9999#32
  | 62 => 7259#32
  | 63 => 12179#32
  | 64 => 699#32
  | 65 => 7775#32
  | 66 => 4573#32
  | 67 => 10369#32
  | 68 => 2724#32
  | 69 => 9144#32
  | 70 => 6254#32
  | 71 => 11458#32
  | 72 => 1734#32
  | 73 => 8478#32
  | 74 => 5434#32
  | 75 => 10930#32
  | 76 => 3670#32
  | 77 => 9774#32
  | 78 => 7034#32
  | 79 => 11954#32
  | 80 => 887#32
  | 81 => 7963#32
  | 82 => 4761#32
  | 83 => 10557#32
  | 84 => 2912#32
  | 85 => 9332#32
  | 86 => 6442#32
  | 87 => 11646#32
  | 88 => 1922#32
  | 89 => 8666#32
  | 90 => 5622#32
  | 91 => 11118#32
  | 92 => 3858#32
  | 93 => 9962#32
  | 94 => 7222#32
  | 95 => 12142#32
  | 96 => 801#32
  | 97 => 7877#32
  | 98 => 4675#32
  | 99 => 10471#32
  | 100 => 2826#32
  | 101 => 9246#32
  | 102 => 6356#32
  | 103 => 11560#32
  | 104 => 1836#32
  | 105 => 8580#32
  | 106 => 5536#32
  | 107 => 11032#32
  | 108 => 3772#32
  | 109 => 9876#32
  | 110 => 7136#32
  | 111 => 12056#32
  | 112 => 957#32
  | 113 => 8033#32
  | 114 => 4831#32
  | 115 => 10627#32
  | 116 => 2982#32
  | 117 => 9402#32
  | 118 => 6512#32
  | 119 => 11716#32
  | 120 => 1992#32
  | 121 => 8736#32
  | 122 => 5692#32
  | 123 => 11188#32
  | 124 => 3928#32
  | 125 => 10032#32
  | 126 => 7292#32
  | 127 => 12212#32
  | _ => 0#32

noncomputable abbrev lit0t0_8 (i : Nat) : BitVec 32 := match i % 128 with
  | 0 => 602#32
  | 1 => 7678#32
  | 2 => 4476#32
  | 3 => 10272#32
  | 4 => 2627#32
  | 5 => 9047#32
  | 6 => 6157#32
  | 7 => 11361#32
  | 8 => 1637#32
  | 9 => 8381#32
  | 10 => 5337#32
  | 11 => 10833#32
  | 12 => 3573#32
  | 13 => 9677#32
  | 14 => 6937#32
  | 15 => 11857#32
  | 16 => 814#32
  | 17 => 7890#32
  | 18 => 4688#32
  | 19 => 10484#32
  | 20 => 2839#32
  | 21 => 9259#32
  | 22 => 6369#32
  | 23 => 11573#32
  | 24 => 1849#32
  | 25 => 8593#32
  | 26 => 5549#32
  | 27 => 11045#32
  | 28 => 3785#32
  | 29 => 9889#32
  | 30 => 7149#32
  | 31 => 12069#32
  | 32 => 716#32
  | 33 => 7792#32
  | 34 => 4590#32
  | 35 => 10386#32
  | 36 => 2741#32
  | 37 => 9161#32
  | 38 => 6271#32
  | 39 => 11475#32
  | 40 => 1751#32
  | 41 => 8495#32
  | 42 => 5451#32
  | 43 => 10947#32
  | 44 => 3687#32
  | 45 => 9791#32
  | 46 => 7051#32
  | 47 => 11971#32
  | 48 => 896#32
  | 49 => 7972#32
  | 50 => 4770#32
  | 51 => 10566#32
  | 52 => 2921#32
  | 53 => 9341#32
  | 54 => 6451#32
  | 55 => 11655#32
  | 56 => 1931#32
  | 57 => 8675#32
  | 58 => 5631#32
  | 59 => 11127#32
  | 60 => 3867#32
  | 61 => 9971#32
  | 62 => 7231#32
  | 63 => 12151#32
  | 64 => 661#32
  | 65 => 7737#32
  | 66 => 4535#32
  | 67 => 10331#32
  | 68 => 2686#32
  | 69 => 9106#32
  | 70 => 6216#32
  | 71 => 11420#32
  | 72 => 1696#32
  | 73 => 8440#32
  | 74 => 5396#32
  | 75 => 10892#32
  | 76 => 3632#32
  | 77 => 9736#32
  | 78 => 6996#32
  | 79 => 11916#32
  | 80 => 857#32
  | 81 => 7933#32
  | 82 => 4731#32
  | 83 => 10527#32
  | 84 => 2882#32
  | 85 => 9302#32
  | 86 => 6412#32
  | 87 => 11616#32
  | 88 => 1892#32
  | 89 => 8636#32
  | 90 => 5592#32
  | 91 => 11088#32
  | 92 => 3828#32
  | 93 => 9932#32
  | 94 => 7192#32
  | 95 => 12112#32
  | 96 => 767#32
  | 97 => 7843#32
  | 98 => 4641#32
  | 99 => 10437#32
  | 100 => 2792#32
  | 101 => 9212#32
  | 102 => 6322#32
  | 103 => 11526#32
  | 104 => 1802#32
  | 105 => 8546#32
  | 106 => 5502#32
  | 107 => 10998#32
  | 108 => 3738#32
  | 109 => 9842#32
  | 110 => 7102#32
  | 111 => 12022#32
  | 112 => 931#32
  | 113 => 8007#32
  | 114 => 4805#32
  | 115 => 10601#32
  | 116 => 2956#32
  | 117 => 9376#32
  | 118 => 6486#32
  | 119 => 11690#32
  | 120 => 1966#32
  | 121 => 8710#32
  | 122 => 5666#32
  | 123 => 11162#32
  | 124 => 3902#32
  | 125 => 10006#32
  | 126 => 7266#32
  | 127 => 12186#32
  | _ => 0#32

noncomputable abbrev lit0t0_9 (i : Nat) : BitVec 32 := match i % 128 with
  | 0 => 632#32
  | 1 => 7708#32
  | 2 => 4506#32
  | 3 => 10302#32
  | 4 => 2657#32
  | 5 => 9077#32
  | 6 => 6187#32
  | 7 => 11391#32
  | 8 => 1667#32
  | 9 => 8411#32
  | 10 => 5367#32
  | 11 => 10863#32
  | 12 => 3603#32
  | 13 => 9707#32
  | 14 => 6967#32
  | 15 => 11887#32
  | 16 => 836#32
  | 17 => 7912#32
  | 18 => 4710#32
  | 19 => 10506#32
  | 20 => 2861#32
  | 21 => 9281#32
  | 22 => 6391#32
  | 23 => 11595#32
  | 24 => 1871#32
  | 25 => 8615#32
  | 26 => 5571#32
  | 27 => 11067#32
  | 28 => 3807#32
  | 29 => 9911#32
  | 30 => 7171#32
  | 31 => 12091#32
  | 32 => 742#32
  | 33 => 7818#32
  | 34 => 4616#32
  | 35 => 10412#32
  | 36 => 2767#32
  | 37 => 9187#32
  | 38 => 6297#32
  | 39 => 11501#32
  | 40 => 1777#32
  | 41 => 8521#32
  | 42 => 5477#32
  | 43 => 10973#32
  | 44 => 3713#32
  | 45 => 9817#32
  | 46 => 7077#32
  | 47 => 11997#32
  | 48 => 914#32
  | 49 => 7990#32
  | 50 => 4788#32
  | 51 => 10584#32
  | 52 => 2939#32
  | 53 => 9359#32
  | 54 => 6469#32
  | 55 => 11673#32
  | 56 => 1949#32
  | 57 => 8693#32
  | 58 => 5649#32
  | 59 => 11145#32
  | 60 => 3885#32
  | 61 => 9989#32
  | 62 => 7249#32
  | 63 => 12169#32
  | 64 => 689#32
  | 65 => 7765#32
  | 66 => 4563#32
  | 67 => 10359#32
  | 68 => 2714#32
  | 69 => 9134#32
  | 70 => 6244#32
  | 71 => 11448#32
  | 72 => 1724#32
  | 73 => 8468#32
  | 74 => 5424#32
  | 75 => 10920#32
  | 76 => 3660#32
  | 77 => 9764#32
  | 78 => 7024#32
  | 79 => 11944#32
  | 80 => 877#32
  | 81 => 7953#32
  | 82 => 4751#32
  | 83 => 10547#32
  | 84 => 2902#32
  | 85 => 9322#32
  | 86 => 6432#32
  | 87 => 11636#32
  | 88 => 1912#32
  | 89 => 8656#32
  | 90 => 5612#32
  | 91 => 11108#32
  | 92 => 3848#32
  | 93 => 9952#32
  | 94 => 7212#32
  | 95 => 12132#32
  | 96 => 791#32
  | 97 => 7867#32
  | 98 => 4665#32
  | 99 => 10461#32
  | 100 => 2816#32
  | 101 => 9236#32
  | 102 => 6346#32
  | 103 => 11550#32
  | 104 => 1826#32
  | 105 => 8570#32
  | 106 => 5526#32
  | 107 => 11022#32
  | 108 => 3762#32
  | 109 => 9866#32
  | 110 => 7126#32
  | 111 => 12046#32
  | 112 => 947#32
  | 113 => 8023#32
  | 114 => 4821#32
  | 115 => 10617#32
  | 116 => 2972#32
  | 117 => 9392#32
  | 118 => 6502#32
  | 119 => 11706#32
  | 120 => 1982#32
  | 121 => 8726#32
  | 122 => 5682#32
  | 123 => 11178#32
  | 124 => 3918#32
  | 125 => 10022#32
  | 126 => 7282#32
  | 127 => 12202#32
  | _ => 0#32

noncomputable abbrev lit0t0_10 (i : Nat) : BitVec 32 := match i % 128 with
  | 0 => 610#32
  | 1 => 7686#32
  | 2 => 4484#32
  | 3 => 10280#32
  | 4 => 2635#32
  | 5 => 9055#32
  | 6 => 6165#32
  | 7 => 11369#32
  | 8 => 1645#32
  | 9 => 8389#32
  | 10 => 5345#32
  | 11 => 10841#32
  | 12 => 3581#32
  | 13 => 9685#32
  | 14 => 6945#32
  | 15 => 11865#32
  | 16 => 822#32
  | 17 => 7898#32
  | 18 => 4696#32
  | 19 => 10492#32
  | 20 => 2847#32
  | 21 => 9267#32
  | 22 => 6377#32
  | 23 => 11581#32
  | 24 => 1857#32
  | 25 => 8601#32
  | 26 => 5557#32
  | 27 => 11053#32
  | 28 => 3793#32
  | 29 => 9897#32
  | 30 => 7157#32
  | 31 => 12077#32
  | 32 => 724#32
  | 33 => 7800#32
  | 34 => 4598#32
  | 35 => 10394#32
  | 36 => 2749#32
  | 37 => 9169#32
  | 38 => 6279#32
  | 39 => 11483#32
  | 40 => 1759#32
  | 41 => 8503#32
  | 42 => 5459#32
  | 43 => 10955#32
  | 44 => 3695#32
  | 45 => 9799#32
  | 46 => 7059#32
  | 47 => 11979#32
  | 48 => 904#32
  | 49 => 7980#32
  | 50 => 4778#32
  | 51 => 10574#32
  | 52 => 2929#32
  | 53 => 9349#32
  | 54 => 6459#32
  | 55 => 11663#32
  | 56 => 1939#32
  | 57 => 8683#32
  | 58 => 5639#32
  | 59 => 11135#32
  | 60 => 3875#32
  | 61 => 9979#32
  | 62 => 7239#32
  | 63 => 12159#32
  | 64 => 669#32
  | 65 => 7745#32
  | 66 => 4543#32
  | 67 => 10339#32
  | 68 => 2694#32
  | 69 => 9114#32
  | 70 => 6224#32
  | 71 => 11428#32
  | 72 => 1704#32
  | 73 => 8448#32
  | 74 => 5404#32
  | 75 => 10900#32
  | 76 => 3640#32
  | 77 => 9744#32
  | 78 => 7004#32
  | 79 => 11924#32
  | 80 => 865#32
  | 81 => 7941#32
  | 82 => 4739#32
  | 83 => 10535#32
  | 84 => 2890#32
  | 85 => 9310#32
  | 86 => 6420#32
  | 87 => 11624#32
  | 88 => 1900#32
  | 89 => 8644#32
  | 90 => 5600#32
  | 91 => 11096#32
  | 92 => 3836#32
  | 93 => 9940#32
  | 94 => 7200#32
  | 95 => 12120#32
  | 96 => 775#32
  | 97 => 7851#32
  | 98 => 4649#32
  | 99 => 10445#32
  | 100 => 2800#32
  | 101 => 9220#32
  | 102 => 6330#32
  | 103 => 11534#32
  | 104 => 1810#32
  | 105 => 8554#32
  | 106 => 5510#32
  | 107 => 11006#32
  | 108 => 3746#32
  | 109 => 9850#32
  | 110 => 7110#32
  | 111 => 12030#32
  | 112 => 939#32
  | 113 => 8015#32
  | 114 => 4813#32
  | 115 => 10609#32
  | 116 => 2964#32
  | 117 => 9384#32
  | 118 => 6494#32
  | 119 => 11698#32
  | 120 => 1974#32
  | 121 => 8718#32
  | 122 => 5674#32
  | 123 => 11170#32
  | 124 => 3910#32
  | 125 => 10014#32
  | 126 => 7274#32
  | 127 => 12194#32
  | _ => 0#32

noncomputable abbrev lit0t0_11 (i : Nat) : BitVec 32 := match i % 128 with
  | 0 => 640#32
  | 1 => 7716#32
  | 2 => 4514#32
  | 3 => 10310#32
  | 4 => 2665#32
  | 5 => 9085#32
  | 6 => 6195#32
  | 7 => 11399#32
  | 8 => 1675#32
  | 9 => 8419#32
  | 10 => 5375#32
  | 11 => 10871#32
  | 12 => 3611#32
  | 13 => 9715#32
  | 14 => 6975#32
  | 15 => 11895#32
  | 16 => 844#32
  | 17 => 7920#32
  | 18 => 4718#32
  | 19 => 10514#32
  | 20 => 2869#32
  | 21 => 9289#32
  | 22 => 6399#32
  | 23 => 11603#32
  | 24 => 1879#32
  | 25 => 8623#32
  | 26 => 5579#32
  | 27 => 11075#32
  | 28 => 3815#32
  | 29 => 9919#32
  | 30 => 7179#32
  | 31 => 12099#32
  | 32 => 750#32
  | 33 => 7826#32
  | 34 => 4624#32
  | 35 => 10420#32
  | 36 => 2775#32
  | 37 => 9195#32
  | 38 => 6305#32
  | 39 => 11509#32
  | 40 => 1785#32
  | 41 => 8529#32
  | 42 => 5485#32
  | 43 => 10981#32
  | 44 => 3721#32
  | 45 => 9825#32
  | 46 => 7085#32
  | 47 => 12005#32
  | 48 => 922#32
  | 49 => 7998#32
  | 50 => 4796#32
  | 51 => 10592#32
  | 52 => 2947#32
  | 53 => 9367#32
  | 54 => 6477#32
  | 55 => 11681#32
  | 56 => 1957#32
  | 57 => 8701#32
  | 58 => 5657#32
  | 59 => 11153#32
  | 60 => 3893#32
  | 61 => 9997#32
  | 62 => 7257#32
  | 63 => 12177#32
  | 64 => 697#32
  | 65 => 7773#32
  | 66 => 4571#32
  | 67 => 10367#32
  | 68 => 2722#32
  | 69 => 9142#32
  | 70 => 6252#32
  | 71 => 11456#32
  | 72 => 1732#32
  | 73 => 8476#32
  | 74 => 5432#32
  | 75 => 10928#32
  | 76 => 3668#32
  | 77 => 9772#32
  | 78 => 7032#32
  | 79 => 11952#32
  | 80 => 885#32
  | 81 => 7961#32
  | 82 => 4759#32
  | 83 => 10555#32
  | 84 => 2910#32
  | 85 => 9330#32
  | 86 => 6440#32
  | 87 => 11644#32
  | 88 => 1920#32
  | 89 => 8664#32
  | 90 => 5620#32
  | 91 => 11116#32
  | 92 => 3856#32
  | 93 => 9960#32
  | 94 => 7220#32
  | 95 => 12140#32
  | 96 => 799#32
  | 97 => 7875#32
  | 98 => 4673#32
  | 99 => 10469#32
  | 100 => 2824#32
  | 101 => 9244#32
  | 102 => 6354#32
  | 103 => 11558#32
  | 104 => 1834#32
  | 105 => 8578#32
  | 106 => 5534#32
  | 107 => 11030#32
  | 108 => 3770#32
  | 109 => 9874#32
  | 110 => 7134#32
  | 111 => 12054#32
  | 112 => 955#32
  | 113 => 8031#32
  | 114 => 4829#32
  | 115 => 10625#32
  | 116 => 2980#32
  | 117 => 9400#32
  | 118 => 6510#32
  | 119 => 11714#32
  | 120 => 1990#32
  | 121 => 8734#32
  | 122 => 5690#32
  | 123 => 11186#32
  | 124 => 3926#32
  | 125 => 10030#32
  | 126 => 7290#32
  | 127 => 12210#32
  | _ => 0#32

noncomputable abbrev lit0t0_12 (i : Nat) : BitVec 32 := match i % 128 with
  | 0 => 606#32
  | 1 => 7682#32
  | 2 => 4480#32
  | 3 => 10276#32
  | 4 => 2631#32
  | 5 => 9051#32
  | 6 => 6161#32
  | 7 => 11365#32
  | 8 => 1641#32
  | 9 => 8385#32
  | 10 => 5341#32
  | 11 => 10837#32
  | 12 => 3577#32
  | 13 => 9681#32
  | 14 => 6941#32
  | 15 => 11861#32
  | 16 => 818#32
  | 17 => 7894#32
  | 18 => 4692#32
  | 19 => 10488#32
  | 20 => 2843#32
  | 21 => 9263#32
  | 22 => 6373#32
  | 23 => 11577#32
  | 24 => 1853#32
  | 25 => 8597#32
  | 26 => 5553#32
  | 27 => 11049#32
  | 28 => 3789#32
  | 29 => 9893#32
  | 30 => 7153#32
  | 31 => 12073#32
  | 32 => 720#32
  | 33 => 7796#32
  | 34 => 4594#32
  | 35 => 10390#32
  | 36 => 2745#32
  | 37 => 9165#32
  | 38 => 6275#32
  | 39 => 11479#32
  | 40 => 1755#32
  | 41 => 8499#32
  | 42 => 5455#32
  | 43 => 10951#32
  | 44 => 3691#32
  | 45 => 9795#32
  | 46 => 7055#32
  | 47 => 11975#32
  | 48 => 900#32
  | 49 => 7976#32
  | 50 => 4774#32
  | 51 => 10570#32
  | 52 => 2925#32
  | 53 => 9345#32
  | 54 => 6455#32
  | 55 => 11659#32
  | 56 => 1935#32
  | 57 => 8679#32
  | 58 => 5635#32
  | 59 => 11131#32
  | 60 => 3871#32
  | 61 => 9975#32
  | 62 => 7235#32
  | 63 => 12155#32
  | 64 => 665#32
  | 65 => 7741#32
  | 66 => 4539#32
  | 67 => 10335#32
  | 68 => 2690#32
  | 69 => 9110#32
  | 70 => 6220#32
  | 71 => 11424#32
  | 72 => 1700#32
  | 73 => 8444#32
  | 74 => 5400#32
  | 75 => 10896#32
  | 76 => 3636#32
  | 77 => 9740#32
  | 78 => 7000#32
  | 79 => 11920#32
  | 80 => 861#32
  | 81 => 7937#32
  | 82 => 4735#32
  | 83 => 10531#32
  | 84 => 2886#32
  | 85 => 9306#32
  | 86 => 6416#32
  | 87 => 11620#32
  | 88 => 1896#32
  | 89 => 8640#32
  | 90 => 5596#32
  | 91 => 11092#32
  | 92 => 3832#32
  | 93 => 9936#32
  | 94 => 7196#32
  | 95 => 12116#32
  | 96 => 771#32
  | 97 => 7847#32
  | 98 => 4645#32
  | 99 => 10441#32
  | 100 => 2796#32
  | 101 => 9216#32
  | 102 => 6326#32
  | 103 => 11530#32
  | 104 => 1806#32
  | 105 => 8550#32
  | 106 => 5506#32
  | 107 => 11002#32
  | 108 => 3742#32
  | 109 => 9846#32
  | 110 => 7106#32
  | 111 => 12026#32
  | 112 => 935#32
  | 113 => 8011#32
  | 114 => 4809#32
  | 115 => 10605#32
  | 116 => 2960#32
  | 117 => 9380#32
  | 118 => 6490#32
  | 119 => 11694#32
  | 120 => 1970#32
  | 121 => 8714#32
  | 122 => 5670#32
  | 123 => 11166#32
  | 124 => 3906#32
  | 125 => 10010#32
  | 126 => 7270#32
  | 127 => 12190#32
  | _ => 0#32

noncomputable abbrev lit0t0_13 (i : Nat) : BitVec 32 := match i % 128 with
  | 0 => 636#32
  | 1 => 7712#32
  | 2 => 4510#32
  | 3 => 10306#32
  | 4 => 2661#32
  | 5 => 9081#32
  | 6 => 6191#32
  | 7 => 11395#32
  | 8 => 1671#32
  | 9 => 8415#32
  | 10 => 5371#32
  | 11 => 10867#32
  | 12 => 3607#32
  | 13 => 9711#32
  | 14 => 6971#32
  | 15 => 11891#32
  | 16 => 840#32
  | 17 => 7916#32
  | 18 => 4714#32
  | 19 => 10510#32
  | 20 => 2865#32
  | 21 => 9285#32
  | 22 => 6395#32
  | 23 => 11599#32
  | 24 => 1875#32
  | 25 => 8619#32
  | 26 => 5575#32
  | 27 => 11071#32
  | 28 => 3811#32
  | 29 => 9915#32
  | 30 => 7175#32
  | 31 => 12095#32
  | 32 => 746#32
  | 33 => 7822#32
  | 34 => 4620#32
  | 35 => 10416#32
  | 36 => 2771#32
  | 37 => 9191#32
  | 38 => 6301#32
  | 39 => 11505#32
  | 40 => 1781#32
  | 41 => 8525#32
  | 42 => 5481#32
  | 43 => 10977#32
  | 44 => 3717#32
  | 45 => 9821#32
  | 46 => 7081#32
  | 47 => 12001#32
  | 48 => 918#32
  | 49 => 7994#32
  | 50 => 4792#32
  | 51 => 10588#32
  | 52 => 2943#32
  | 53 => 9363#32
  | 54 => 6473#32
  | 55 => 11677#32
  | 56 => 1953#32
  | 57 => 8697#32
  | 58 => 5653#32
  | 59 => 11149#32
  | 60 => 3889#32
  | 61 => 9993#32
  | 62 => 7253#32
  | 63 => 12173#32
  | 64 => 693#32
  | 65 => 7769#32
  | 66 => 4567#32
  | 67 => 10363#32
  | 68 => 2718#32
  | 69 => 9138#32
  | 70 => 6248#32
  | 71 => 11452#32
  | 72 => 1728#32
  | 73 => 8472#32
  | 74 => 5428#32
  | 75 => 10924#32
  | 76 => 3664#32
  | 77 => 9768#32
  | 78 => 7028#32
  | 79 => 11948#32
  | 80 => 881#32
  | 81 => 7957#32
  | 82 => 4755#32
  | 83 => 10551#32
  | 84 => 2906#32
  | 85 => 9326#32
  | 86 => 6436#32
  | 87 => 11640#32
  | 88 => 1916#32
  | 89 => 8660#32
  | 90 => 5616#32
  | 91 => 11112#32
  | 92 => 3852#32
  | 93 => 9956#32
  | 94 => 7216#32
  | 95 => 12136#32
  | 96 => 795#32
  | 97 => 7871#32
  | 98 => 4669#32
  | 99 => 10465#32
  | 100 => 2820#32
  | 101 => 9240#32
  | 102 => 6350#32
  | 103 => 11554#32
  | 104 => 1830#32
  | 105 => 8574#32
  | 106 => 5530#32
  | 107 => 11026#32
  | 108 => 3766#32
  | 109 => 9870#32
  | 110 => 7130#32
  | 111 => 12050#32
  | 112 => 951#32
  | 113 => 8027#32
  | 114 => 4825#32
  | 115 => 10621#32
  | 116 => 2976#32
  | 117 => 9396#32
  | 118 => 6506#32
  | 119 => 11710#32
  | 120 => 1986#32
  | 121 => 8730#32
  | 122 => 5686#32
  | 123 => 11182#32
  | 124 => 3922#32
  | 125 => 10026#32
  | 126 => 7286#32
  | 127 => 12206#32
  | _ => 0#32

noncomputable abbrev lit0t0_14 (i : Nat) : BitVec 32 := match i % 128 with
  | 0 => 614#32
  | 1 => 7690#32
  | 2 => 4488#32
  | 3 => 10284#32
  | 4 => 2639#32
  | 5 => 9059#32
  | 6 => 6169#32
  | 7 => 11373#32
  | 8 => 1649#32
  | 9 => 8393#32
  | 10 => 5349#32
  | 11 => 10845#32
  | 12 => 3585#32
  | 13 => 9689#32
  | 14 => 6949#32
  | 15 => 11869#32
  | 16 => 826#32
  | 17 => 7902#32
  | 18 => 4700#32
  | 19 => 10496#32
  | 20 => 2851#32
  | 21 => 9271#32
  | 22 => 6381#32
  | 23 => 11585#32
  | 24 => 1861#32
  | 25 => 8605#32
  | 26 => 5561#32
  | 27 => 11057#32
  | 28 => 3797#32
  | 29 => 9901#32
  | 30 => 7161#32
  | 31 => 12081#32
  | 32 => 728#32
  | 33 => 7804#32
  | 34 => 4602#32
  | 35 => 10398#32
  | 36 => 2753#32
  | 37 => 9173#32
  | 38 => 6283#32
  | 39 => 11487#32
  | 40 => 1763#32
  | 41 => 8507#32
  | 42 => 5463#32
  | 43 => 10959#32
  | 44 => 3699#32
  | 45 => 9803#32
  | 46 => 7063#32
  | 47 => 11983#32
  | 48 => 908#32
  | 49 => 7984#32
  | 50 => 4782#32
  | 51 => 10578#32
  | 52 => 2933#32
  | 53 => 9353#32
  | 54 => 6463#32
  | 55 => 11667#32
  | 56 => 1943#32
  | 57 => 8687#32
  | 58 => 5643#32
  | 59 => 11139#32
  | 60 => 3879#32
  | 61 => 9983#32
  | 62 => 7243#32
  | 63 => 12163#32
  | 64 => 673#32
  | 65 => 7749#32
  | 66 => 4547#32
  | 67 => 10343#32
  | 68 => 2698#32
  | 69 => 9118#32
  | 70 => 6228#32
  | 71 => 11432#32
  | 72 => 1708#32
  | 73 => 8452#32
  | 74 => 5408#32
  | 75 => 10904#32
  | 76 => 3644#32
  | 77 => 9748#32
  | 78 => 7008#32
  | 79 => 11928#32
  | 80 => 869#32
  | 81 => 7945#32
  | 82 => 4743#32
  | 83 => 10539#32
  | 84 => 2894#32
  | 85 => 9314#32
  | 86 => 6424#32
  | 87 => 11628#32
  | 88 => 1904#32
  | 89 => 8648#32
  | 90 => 5604#32
  | 91 => 11100#32
  | 92 => 3840#32
  | 93 => 9944#32
  | 94 => 7204#32
  | 95 => 12124#32
  | 96 => 779#32
  | 97 => 7855#32
  | 98 => 4653#32
  | 99 => 10449#32
  | 100 => 2804#32
  | 101 => 9224#32
  | 102 => 6334#32
  | 103 => 11538#32
  | 104 => 1814#32
  | 105 => 8558#32
  | 106 => 5514#32
  | 107 => 11010#32
  | 108 => 3750#32
  | 109 => 9854#32
  | 110 => 7114#32
  | 111 => 12034#32
  | 112 => 943#32
  | 113 => 8019#32
  | 114 => 4817#32
  | 115 => 10613#32
  | 116 => 2968#32
  | 117 => 9388#32
  | 118 => 6498#32
  | 119 => 11702#32
  | 120 => 1978#32
  | 121 => 8722#32
  | 122 => 5678#32
  | 123 => 11174#32
  | 124 => 3914#32
  | 125 => 10018#32
  | 126 => 7278#32
  | 127 => 12198#32
  | _ => 0#32

noncomputable abbrev lit0t0_15 (i : Nat) : BitVec 32 := match i % 128 with
  | 0 => 644#32
  | 1 => 7720#32
  | 2 => 4518#32
  | 3 => 10314#32
  | 4 => 2669#32
  | 5 => 9089#32
  | 6 => 6199#32
  | 7 => 11403#32
  | 8 => 1679#32
  | 9 => 8423#32
  | 10 => 5379#32
  | 11 => 10875#32
  | 12 => 3615#32
  | 13 => 9719#32
  | 14 => 6979#32
  | 15 => 11899#32
  | 16 => 848#32
  | 17 => 7924#32
  | 18 => 4722#32
  | 19 => 10518#32
  | 20 => 2873#32
  | 21 => 9293#32
  | 22 => 6403#32
  | 23 => 11607#32
  | 24 => 1883#32
  | 25 => 8627#32
  | 26 => 5583#32
  | 27 => 11079#32
  | 28 => 3819#32
  | 29 => 9923#32
  | 30 => 7183#32
  | 31 => 12103#32
  | 32 => 754#32
  | 33 => 7830#32
  | 34 => 4628#32
  | 35 => 10424#32
  | 36 => 2779#32
  | 37 => 9199#32
  | 38 => 6309#32
  | 39 => 11513#32
  | 40 => 1789#32
  | 41 => 8533#32
  | 42 => 5489#32
  | 43 => 10985#32
  | 44 => 3725#32
  | 45 => 9829#32
  | 46 => 7089#32
  | 47 => 12009#32
  | 48 => 926#32
  | 49 => 8002#32
  | 50 => 4800#32
  | 51 => 10596#32
  | 52 => 2951#32
  | 53 => 9371#32
  | 54 => 6481#32
  | 55 => 11685#32
  | 56 => 1961#32
  | 57 => 8705#32
  | 58 => 5661#32
  | 59 => 11157#32
  | 60 => 3897#32
  | 61 => 10001#32
  | 62 => 7261#32
  | 63 => 12181#32
  | 64 => 701#32
  | 65 => 7777#32
  | 66 => 4575#32
  | 67 => 10371#32
  | 68 => 2726#32
  | 69 => 9146#32
  | 70 => 6256#32
  | 71 => 11460#32
  | 72 => 1736#32
  | 73 => 8480#32
  | 74 => 5436#32
  | 75 => 10932#32
  | 76 => 3672#32
  | 77 => 9776#32
  | 78 => 7036#32
  | 79 => 11956#32
  | 80 => 889#32
  | 81 => 7965#32
  | 82 => 4763#32
  | 83 => 10559#32
  | 84 => 2914#32
  | 85 => 9334#32
  | 86 => 6444#32
  | 87 => 11648#32
  | 88 => 1924#32
  | 89 => 8668#32
  | 90 => 5624#32
  | 91 => 11120#32
  | 92 => 3860#32
  | 93 => 9964#32
  | 94 => 7224#32
  | 95 => 12144#32
  | 96 => 803#32
  | 97 => 7879#32
  | 98 => 4677#32
  | 99 => 10473#32
  | 100 => 2828#32
  | 101 => 9248#32
  | 102 => 6358#32
  | 103 => 11562#32
  | 104 => 1838#32
  | 105 => 8582#32
  | 106 => 5538#32
  | 107 => 11034#32
  | 108 => 3774#32
  | 109 => 9878#32
  | 110 => 7138#32
  | 111 => 12058#32
  | 112 => 959#32
  | 113 => 8035#32
  | 114 => 4833#32
  | 115 => 10629#32
  | 116 => 2984#32
  | 117 => 9404#32
  | 118 => 6514#32
  | 119 => 11718#32
  | 120 => 1994#32
  | 121 => 8738#32
  | 122 => 5694#32
  | 123 => 11190#32
  | 124 => 3930#32
  | 125 => 10034#32
  | 126 => 7294#32
  | 127 => 12214#32
  | _ => 0#32

noncomputable abbrev lit0t0_16 (i : Nat) : BitVec 32 := match i % 128 with
  | 0 => 601#32
  | 1 => 7677#32
  | 2 => 4475#32
  | 3 => 10271#32
  | 4 => 2626#32
  | 5 => 9046#32
  | 6 => 6156#32
  | 7 => 11360#32
  | 8 => 1636#32
  | 9 => 8380#32
  | 10 => 5336#32
  | 11 => 10832#32
  | 12 => 3572#32
  | 13 => 9676#32
  | 14 => 6936#32
  | 15 => 11856#32
  | 16 => 813#32
  | 17 => 7889#32
  | 18 => 4687#32
  | 19 => 10483#32
  | 20 => 2838#32
  | 21 => 9258#32
  | 22 => 6368#32
  | 23 => 11572#32
  | 24 => 1848#32
  | 25 => 8592#32
  | 26 => 5548#32
  | 27 => 11044#32
  | 28 => 3784#32
  | 29 => 9888#32
  | 30 => 7148#32
  | 31 => 12068#32
  | 32 => 715#32
  | 33 => 7791#32
  | 34 => 4589#32
  | 35 => 10385#32
  | 36 => 2740#32
  | 37 => 9160#32
  | 38 => 6270#32
  | 39 => 11474#32
  | 40 => 1750#32
  | 41 => 8494#32
  | 42 => 5450#32
  | 43 => 10946#32
  | 44 => 3686#32
  | 45 => 9790#32
  | 46 => 7050#32
  | 47 => 11970#32
  | 48 => 895#32
  | 49 => 7971#32
  | 50 => 4769#32
  | 51 => 10565#32
  | 52 => 2920#32
  | 53 => 9340#32
  | 54 => 6450#32
  | 55 => 11654#32
  | 56 => 1930#32
  | 57 => 8674#32
  | 58 => 5630#32
  | 59 => 11126#32
  | 60 => 3866#32
  | 61 => 9970#32
  | 62 => 7230#32
  | 63 => 12150#32
  | 64 => 660#32
  | 65 => 7736#32
  | 66 => 4534#32
  | 67 => 10330#32
  | 68 => 2685#32
  | 69 => 9105#32
  | 70 => 6215#32
  | 71 => 11419#32
  | 72 => 1695#32
  | 73 => 8439#32
  | 74 => 5395#32
  | 75 => 10891#32
  | 76 => 3631#32
  | 77 => 9735#32
  | 78 => 6995#32
  | 79 => 11915#32
  | 80 => 856#32
  | 81 => 7932#32
  | 82 => 4730#32
  | 83 => 10526#32
  | 84 => 2881#32
  | 85 => 9301#32
  | 86 => 6411#32
  | 87 => 11615#32
  | 88 => 1891#32
  | 89 => 8635#32
  | 90 => 5591#32
  | 91 => 11087#32
  | 92 => 3827#32
  | 93 => 9931#32
  | 94 => 7191#32
  | 95 => 12111#32
  | 96 => 766#32
  | 97 => 7842#32
  | 98 => 4640#32
  | 99 => 10436#32
  | 100 => 2791#32
  | 101 => 9211#32
  | 102 => 6321#32
  | 103 => 11525#32
  | 104 => 1801#32
  | 105 => 8545#32
  | 106 => 5501#32
  | 107 => 10997#32
  | 108 => 3737#32
  | 109 => 9841#32
  | 110 => 7101#32
  | 111 => 12021#32
  | 112 => 930#32
  | 113 => 8006#32
  | 114 => 4804#32
  | 115 => 10600#32
  | 116 => 2955#32
  | 117 => 9375#32
  | 118 => 6485#32
  | 119 => 11689#32
  | 120 => 1965#32
  | 121 => 8709#32
  | 122 => 5665#32
  | 123 => 11161#32
  | 124 => 3901#32
  | 125 => 10005#32
  | 126 => 7265#32
  | 127 => 12185#32
  | _ => 0#32

noncomputable abbrev lit0t0_17 (i : Nat) : BitVec 32 := match i % 128 with
  | 0 => 631#32
  | 1 => 7707#32
  | 2 => 4505#32
  | 3 => 10301#32
  | 4 => 2656#32
  | 5 => 9076#32
  | 6 => 6186#32
  | 7 => 11390#32
  | 8 => 1666#32
  | 9 => 8410#32
  | 10 => 5366#32
  | 11 => 10862#32
  | 12 => 3602#32
  | 13 => 9706#32
  | 14 => 6966#32
  | 15 => 11886#32
  | 16 => 835#32
  | 17 => 7911#32
  | 18 => 4709#32
  | 19 => 10505#32
  | 20 => 2860#32
  | 21 => 9280#32
  | 22 => 6390#32
  | 23 => 11594#32
  | 24 => 1870#32
  | 25 => 8614#32
  | 26 => 5570#32
  | 27 => 11066#32
  | 28 => 3806#32
  | 29 => 9910#32
  | 30 => 7170#32
  | 31 => 12090#32
  | 32 => 741#32
  | 33 => 7817#32
  | 34 => 4615#32
  | 35 => 10411#32
  | 36 => 2766#32
  | 37 => 9186#32
  | 38 => 6296#32
  | 39 => 11500#32
  | 40 => 1776#32
  | 41 => 8520#32
  | 42 => 5476#32
  | 43 => 10972#32
  | 44 => 3712#32
  | 45 => 9816#32
  | 46 => 7076#32
  | 47 => 11996#32
  | 48 => 913#32
  | 49 => 7989#32
  | 50 => 4787#32
  | 51 => 10583#32
  | 52 => 2938#32
  | 53 => 9358#32
  | 54 => 6468#32
  | 55 => 11672#32
  | 56 => 1948#32
  | 57 => 8692#32
  | 58 => 5648#32
  | 59 => 11144#32
  | 60 => 3884#32
  | 61 => 9988#32
  | 62 => 7248#32
  | 63 => 12168#32
  | 64 => 688#32
  | 65 => 7764#32
  | 66 => 4562#32
  | 67 => 10358#32
  | 68 => 2713#32
  | 69 => 9133#32
  | 70 => 6243#32
  | 71 => 11447#32
  | 72 => 1723#32
  | 73 => 8467#32
  | 74 => 5423#32
  | 75 => 10919#32
  | 76 => 3659#32
  | 77 => 9763#32
  | 78 => 7023#32
  | 79 => 11943#32
  | 80 => 876#32
  | 81 => 7952#32
  | 82 => 4750#32
  | 83 => 10546#32
  | 84 => 2901#32
  | 85 => 9321#32
  | 86 => 6431#32
  | 87 => 11635#32
  | 88 => 1911#32
  | 89 => 8655#32
  | 90 => 5611#32
  | 91 => 11107#32
  | 92 => 3847#32
  | 93 => 9951#32
  | 94 => 7211#32
  | 95 => 12131#32
  | 96 => 790#32
  | 97 => 7866#32
  | 98 => 4664#32
  | 99 => 10460#32
  | 100 => 2815#32
  | 101 => 9235#32
  | 102 => 6345#32
  | 103 => 11549#32
  | 104 => 1825#32
  | 105 => 8569#32
  | 106 => 5525#32
  | 107 => 11021#32
  | 108 => 3761#32
  | 109 => 9865#32
  | 110 => 7125#32
  | 111 => 12045#32
  | 112 => 946#32
  | 113 => 8022#32
  | 114 => 4820#32
  | 115 => 10616#32
  | 116 => 2971#32
  | 117 => 9391#32
  | 118 => 6501#32
  | 119 => 11705#32
  | 120 => 1981#32
  | 121 => 8725#32
  | 122 => 5681#32
  | 123 => 11177#32
  | 124 => 3917#32
  | 125 => 10021#32
  | 126 => 7281#32
  | 127 => 12201#32
  | _ => 0#32

noncomputable abbrev lit0t0_18 (i : Nat) : BitVec 32 := match i % 128 with
  | 0 => 609#32
  | 1 => 7685#32
  | 2 => 4483#32
  | 3 => 10279#32
  | 4 => 2634#32
  | 5 => 9054#32
  | 6 => 6164#32
  | 7 => 11368#32
  | 8 => 1644#32
  | 9 => 8388#32
  | 10 => 5344#32
  | 11 => 10840#32
  | 12 => 3580#32
  | 13 => 9684#32
  | 14 => 6944#32
  | 15 => 11864#32
  | 16 => 821#32
  | 17 => 7897#32
  | 18 => 4695#32
  | 19 => 10491#32
  | 20 => 2846#32
  | 21 => 9266#32
  | 22 => 6376#32
  | 23 => 11580#32
  | 24 => 1856#32
  | 25 => 8600#32
  | 26 => 5556#32
  | 27 => 11052#32
  | 28 => 3792#32
  | 29 => 9896#32
  | 30 => 7156#32
  | 31 => 12076#32
  | 32 => 723#32
  | 33 => 7799#32
  | 34 => 4597#32
  | 35 => 10393#32
  | 36 => 2748#32
  | 37 => 9168#32
  | 38 => 6278#32
  | 39 => 11482#32
  | 40 => 1758#32
  | 41 => 8502#32
  | 42 => 5458#32
  | 43 => 10954#32
  | 44 => 3694#32
  | 45 => 9798#32
  | 46 => 7058#32
  | 47 => 11978#32
  | 48 => 903#32
  | 49 => 7979#32
  | 50 => 4777#32
  | 51 => 10573#32
  | 52 => 2928#32
  | 53 => 9348#32
  | 54 => 6458#32
  | 55 => 11662#32
  | 56 => 1938#32
  | 57 => 8682#32
  | 58 => 5638#32
  | 59 => 11134#32
  | 60 => 3874#32
  | 61 => 9978#32
  | 62 => 7238#32
  | 63 => 12158#32
  | 64 => 668#32
  | 65 => 7744#32
  | 66 => 4542#32
  | 67 => 10338#32
  | 68 => 2693#32
  | 69 => 9113#32
  | 70 => 6223#32
  | 71 => 11427#32
  | 72 => 1703#32
  | 73 => 8447#32
  | 74 => 5403#32
  | 75 => 10899#32
  | 76 => 3639#32
  | 77 => 9743#32
  | 78 => 7003#32
  | 79 => 11923#32
  | 80 => 864#32
  | 81 => 7940#32
  | 82 => 4738#32
  | 83 => 10534#32
  | 84 => 2889#32
  | 85 => 9309#32
  | 86 => 6419#32
  | 87 => 11623#32
  | 88 => 1899#32
  | 89 => 8643#32
  | 90 => 5599#32
  | 91 => 11095#32
  | 92 => 3835#32
  | 93 => 9939#32
  | 94 => 7199#32
  | 95 => 12119#32
  | 96 => 774#32
  | 97 => 7850#32
  | 98 => 4648#32
  | 99 => 10444#32
  | 100 => 2799#32
  | 101 => 9219#32
  | 102 => 6329#32
  | 103 => 11533#32
  | 104 => 1809#32
  | 105 => 8553#32
  | 106 => 5509#32
  | 107 => 11005#32
  | 108 => 3745#32
  | 109 => 9849#32
  | 110 => 7109#32
  | 111 => 12029#32
  | 112 => 938#32
  | 113 => 8014#32
  | 114 => 4812#32
  | 115 => 10608#32
  | 116 => 2963#32
  | 117 => 9383#32
  | 118 => 6493#32
  | 119 => 11697#32
  | 120 => 1973#32
  | 121 => 8717#32
  | 122 => 5673#32
  | 123 => 11169#32
  | 124 => 3909#32
  | 125 => 10013#32
  | 126 => 7273#32
  | 127 => 12193#32
  | _ => 0#32

noncomputable abbrev lit0t0_19 (i : Nat) : BitVec 32 := match i % 128 with
  | 0 => 639#32
  | 1 => 7715#32
  | 2 => 4513#32
  | 3 => 10309#32
  | 4 => 2664#32
  | 5 => 9084#32
  | 6 => 6194#32
  | 7 => 11398#32
  | 8 => 1674#32
  | 9 => 8418#32
  | 10 => 5374#32
  | 11 => 10870#32
  | 12 => 3610#32
  | 13 => 9714#32
  | 14 => 6974#32
  | 15 => 11894#32
  | 16 => 843#32
  | 17 => 7919#32
  | 18 => 4717#32
  | 19 => 10513#32
  | 20 => 2868#32
  | 21 => 9288#32
  | 22 => 6398#32
  | 23 => 11602#32
  | 24 => 1878#32
  | 25 => 8622#32
  | 26 => 5578#32
  | 27 => 11074#32
  | 28 => 3814#32
  | 29 => 9918#32
  | 30 => 7178#32
  | 31 => 12098#32
  | 32 => 749#32
  | 33 => 7825#32
  | 34 => 4623#32
  | 35 => 10419#32
  | 36 => 2774#32
  | 37 => 9194#32
  | 38 => 6304#32
  | 39 => 11508#32
  | 40 => 1784#32
  | 41 => 8528#32
  | 42 => 5484#32
  | 43 => 10980#32
  | 44 => 3720#32
  | 45 => 9824#32
  | 46 => 7084#32
  | 47 => 12004#32
  | 48 => 921#32
  | 49 => 7997#32
  | 50 => 4795#32
  | 51 => 10591#32
  | 52 => 2946#32
  | 53 => 9366#32
  | 54 => 6476#32
  | 55 => 11680#32
  | 56 => 1956#32
  | 57 => 8700#32
  | 58 => 5656#32
  | 59 => 11152#32
  | 60 => 3892#32
  | 61 => 9996#32
  | 62 => 7256#32
  | 63 => 12176#32
  | 64 => 696#32
  | 65 => 7772#32
  | 66 => 4570#32
  | 67 => 10366#32
  | 68 => 2721#32
  | 69 => 9141#32
  | 70 => 6251#32
  | 71 => 11455#32
  | 72 => 1731#32
  | 73 => 8475#32
  | 74 => 5431#32
  | 75 => 10927#32
  | 76 => 3667#32
  | 77 => 9771#32
  | 78 => 7031#32
  | 79 => 11951#32
  | 80 => 884#32
  | 81 => 7960#32
  | 82 => 4758#32
  | 83 => 10554#32
  | 84 => 2909#32
  | 85 => 9329#32
  | 86 => 6439#32
  | 87 => 11643#32
  | 88 => 1919#32
  | 89 => 8663#32
  | 90 => 5619#32
  | 91 => 11115#32
  | 92 => 3855#32
  | 93 => 9959#32
  | 94 => 7219#32
  | 95 => 12139#32
  | 96 => 798#32
  | 97 => 7874#32
  | 98 => 4672#32
  | 99 => 10468#32
  | 100 => 2823#32
  | 101 => 9243#32
  | 102 => 6353#32
  | 103 => 11557#32
  | 104 => 1833#32
  | 105 => 8577#32
  | 106 => 5533#32
  | 107 => 11029#32
  | 108 => 3769#32
  | 109 => 9873#32
  | 110 => 7133#32
  | 111 => 12053#32
  | 112 => 954#32
  | 113 => 8030#32
  | 114 => 4828#32
  | 115 => 10624#32
  | 116 => 2979#32
  | 117 => 9399#32
  | 118 => 6509#32
  | 119 => 11713#32
  | 120 => 1989#32
  | 121 => 8733#32
  | 122 => 5689#32
  | 123 => 11185#32
  | 124 => 3925#32
  | 125 => 10029#32
  | 126 => 7289#32
  | 127 => 12209#32
  | _ => 0#32

noncomputable abbrev lit0t0_20 (i : Nat) : BitVec 32 := match i % 128 with
  | 0 => 605#32
  | 1 => 7681#32
  | 2 => 4479#32
  | 3 => 10275#32
  | 4 => 2630#32
  | 5 => 9050#32
  | 6 => 6160#32
  | 7 => 11364#32
  | 8 => 1640#32
  | 9 => 8384#32
  | 10 => 5340#32
  | 11 => 10836#32
  | 12 => 3576#32
  | 13 => 9680#32
  | 14 => 6940#32
  | 15 => 11860#32
  | 16 => 817#32
  | 17 => 7893#32
  | 18 => 4691#32
  | 19 => 10487#32
  | 20 => 2842#32
  | 21 => 9262#32
  | 22 => 6372#32
  | 23 => 11576#32
  | 24 => 1852#32
  | 25 => 8596#32
  | 26 => 5552#32
  | 27 => 11048#32
  | 28 => 3788#32
  | 29 => 9892#32
  | 30 => 7152#32
  | 31 => 12072#32
  | 32 => 719#32
  | 33 => 7795#32
  | 34 => 4593#32
  | 35 => 10389#32
  | 36 => 2744#32
  | 37 => 9164#32
  | 38 => 6274#32
  | 39 => 11478#32
  | 40 => 1754#32
  | 41 => 8498#32
  | 42 => 5454#32
  | 43 => 10950#32
  | 44 => 3690#32
  | 45 => 9794#32
  | 46 => 7054#32
  | 47 => 11974#32
  | 48 => 899#32
  | 49 => 7975#32
  | 50 => 4773#32
  | 51 => 10569#32
  | 52 => 2924#32
  | 53 => 9344#32
  | 54 => 6454#32
  | 55 => 11658#32
  | 56 => 1934#32
  | 57 => 8678#32
  | 58 => 5634#32
  | 59 => 11130#32
  | 60 => 3870#32
  | 61 => 9974#32
  | 62 => 7234#32
  | 63 => 12154#32
  | 64 => 664#32
  | 65 => 7740#32
  | 66 => 4538#32
  | 67 => 10334#32
  | 68 => 2689#32
  | 69 => 9109#32
  | 70 => 6219#32
  | 71 => 11423#32
  | 72 => 1699#32
  | 73 => 8443#32
  | 74 => 5399#32
  | 75 => 10895#32
  | 76 => 3635#32
  | 77 => 9739#32
  | 78 => 6999#32
  | 79 => 11919#32
  | 80 => 860#32
  | 81 => 7936#32
  | 82 => 4734#32
  | 83 => 10530#32
  | 84 => 2885#32
  | 85 => 9305#32
  | 86 => 6415#32
  | 87 => 11619#32
  | 88 => 1895#32
  | 89 => 8639#32
  | 90 => 5595#32
  | 91 => 11091#32
  | 92 => 3831#32
  | 93 => 9935#32
  | 94 => 7195#32
  | 95 => 12115#32
  | 96 => 770#32
  | 97 => 7846#32
  | 98 => 4644#32
  | 99 => 10440#32
  | 100 => 2795#32
  | 101 => 9215#32
  | 102 => 6325#32
  | 103 => 11529#32
  | 104 => 1805#32
  | 105 => 8549#32
  | 106 => 5505#32
  | 107 => 11001#32
  | 108 => 3741#32
  | 109 => 9845#32
  | 110 => 7105#32
  | 111 => 12025#32
  | 112 => 934#32
  | 113 => 8010#32
  | 114 => 4808#32
  | 115 => 10604#32
  | 116 => 2959#32
  | 117 => 9379#32
  | 118 => 6489#32
  | 119 => 11693#32
  | 120 => 1969#32
  | 121 => 8713#32
  | 122 => 5669#32
  | 123 => 11165#32
  | 124 => 3905#32
  | 125 => 10009#32
  | 126 => 7269#32
  | 127 => 12189#32
  | _ => 0#32

noncomputable abbrev lit0t0_21 (i : Nat) : BitVec 32 := match i % 128 with
  | 0 => 635#32
  | 1 => 7711#32
  | 2 => 4509#32
  | 3 => 10305#32
  | 4 => 2660#32
  | 5 => 9080#32
  | 6 => 6190#32
  | 7 => 11394#32
  | 8 => 1670#32
  | 9 => 8414#32
  | 10 => 5370#32
  | 11 => 10866#32
  | 12 => 3606#32
  | 13 => 9710#32
  | 14 => 6970#32
  | 15 => 11890#32
  | 16 => 839#32
  | 17 => 7915#32
  | 18 => 4713#32
  | 19 => 10509#32
  | 20 => 2864#32
  | 21 => 9284#32
  | 22 => 6394#32
  | 23 => 11598#32
  | 24 => 1874#32
  | 25 => 8618#32
  | 26 => 5574#32
  | 27 => 11070#32
  | 28 => 3810#32
  | 29 => 9914#32
  | 30 => 7174#32
  | 31 => 12094#32
  | 32 => 745#32
  | 33 => 7821#32
  | 34 => 4619#32
  | 35 => 10415#32
  | 36 => 2770#32
  | 37 => 9190#32
  | 38 => 6300#32
  | 39 => 11504#32
  | 40 => 1780#32
  | 41 => 8524#32
  | 42 => 5480#32
  | 43 => 10976#32
  | 44 => 3716#32
  | 45 => 9820#32
  | 46 => 7080#32
  | 47 => 12000#32
  | 48 => 917#32
  | 49 => 7993#32
  | 50 => 4791#32
  | 51 => 10587#32
  | 52 => 2942#32
  | 53 => 9362#32
  | 54 => 6472#32
  | 55 => 11676#32
  | 56 => 1952#32
  | 57 => 8696#32
  | 58 => 5652#32
  | 59 => 11148#32
  | 60 => 3888#32
  | 61 => 9992#32
  | 62 => 7252#32
  | 63 => 12172#32
  | 64 => 692#32
  | 65 => 7768#32
  | 66 => 4566#32
  | 67 => 10362#32
  | 68 => 2717#32
  | 69 => 9137#32
  | 70 => 6247#32
  | 71 => 11451#32
  | 72 => 1727#32
  | 73 => 8471#32
  | 74 => 5427#32
  | 75 => 10923#32
  | 76 => 3663#32
  | 77 => 9767#32
  | 78 => 7027#32
  | 79 => 11947#32
  | 80 => 880#32
  | 81 => 7956#32
  | 82 => 4754#32
  | 83 => 10550#32
  | 84 => 2905#32
  | 85 => 9325#32
  | 86 => 6435#32
  | 87 => 11639#32
  | 88 => 1915#32
  | 89 => 8659#32
  | 90 => 5615#32
  | 91 => 11111#32
  | 92 => 3851#32
  | 93 => 9955#32
  | 94 => 7215#32
  | 95 => 12135#32
  | 96 => 794#32
  | 97 => 7870#32
  | 98 => 4668#32
  | 99 => 10464#32
  | 100 => 2819#32
  | 101 => 9239#32
  | 102 => 6349#32
  | 103 => 11553#32
  | 104 => 1829#32
  | 105 => 8573#32
  | 106 => 5529#32
  | 107 => 11025#32
  | 108 => 3765#32
  | 109 => 9869#32
  | 110 => 7129#32
  | 111 => 12049#32
  | 112 => 950#32
  | 113 => 8026#32
  | 114 => 4824#32
  | 115 => 10620#32
  | 116 => 2975#32
  | 117 => 9395#32
  | 118 => 6505#32
  | 119 => 11709#32
  | 120 => 1985#32
  | 121 => 8729#32
  | 122 => 5685#32
  | 123 => 11181#32
  | 124 => 3921#32
  | 125 => 10025#32
  | 126 => 7285#32
  | 127 => 12205#32
  | _ => 0#32

noncomputable abbrev lit0t0_22 (i : Nat) : BitVec 32 := match i % 128 with
  | 0 => 613#32
  | 1 => 7689#32
  | 2 => 4487#32
  | 3 => 10283#32
  | 4 => 2638#32
  | 5 => 9058#32
  | 6 => 6168#32
  | 7 => 11372#32
  | 8 => 1648#32
  | 9 => 8392#32
  | 10 => 5348#32
  | 11 => 10844#32
  | 12 => 3584#32
  | 13 => 9688#32
  | 14 => 6948#32
  | 15 => 11868#32
  | 16 => 825#32
  | 17 => 7901#32
  | 18 => 4699#32
  | 19 => 10495#32
  | 20 => 2850#32
  | 21 => 9270#32
  | 22 => 6380#32
  | 23 => 11584#32
  | 24 => 1860#32
  | 25 => 8604#32
  | 26 => 5560#32
  | 27 => 11056#32
  | 28 => 3796#32
  | 29 => 9900#32
  | 30 => 7160#32
  | 31 => 12080#32
  | 32 => 727#32
  | 33 => 7803#32
  | 34 => 4601#32
  | 35 => 10397#32
  | 36 => 2752#32
  | 37 => 9172#32
  | 38 => 6282#32
  | 39 => 11486#32
  | 40 => 1762#32
  | 41 => 8506#32
  | 42 => 5462#32
  | 43 => 10958#32
  | 44 => 3698#32
  | 45 => 9802#32
  | 46 => 7062#32
  | 47 => 11982#32
  | 48 => 907#32
  | 49 => 7983#32
  | 50 => 4781#32
  | 51 => 10577#32
  | 52 => 2932#32
  | 53 => 9352#32
  | 54 => 6462#32
  | 55 => 11666#32
  | 56 => 1942#32
  | 57 => 8686#32
  | 58 => 5642#32
  | 59 => 11138#32
  | 60 => 3878#32
  | 61 => 9982#32
  | 62 => 7242#32
  | 63 => 12162#32
  | 64 => 672#32
  | 65 => 7748#32
  | 66 => 4546#32
  | 67 => 10342#32
  | 68 => 2697#32
  | 69 => 9117#32
  | 70 => 6227#32
  | 71 => 11431#32
  | 72 => 1707#32
  | 73 => 8451#32
  | 74 => 5407#32
  | 75 => 10903#32
  | 76 => 3643#32
  | 77 => 9747#32
  | 78 => 7007#32
  | 79 => 11927#32
  | 80 => 868#32
  | 81 => 7944#32
  | 82 => 4742#32
  | 83 => 10538#32
  | 84 => 2893#32
  | 85 => 9313#32
  | 86 => 6423#32
  | 87 => 11627#32
  | 88 => 1903#32
  | 89 => 8647#32
  | 90 => 5603#32
  | 91 => 11099#32
  | 92 => 3839#32
  | 93 => 9943#32
  | 94 => 7203#32
  | 95 => 12123#32
  | 96 => 778#32
  | 97 => 7854#32
  | 98 => 4652#32
  | 99 => 10448#32
  | 100 => 2803#32
  | 101 => 9223#32
  | 102 => 6333#32
  | 103 => 11537#32
  | 104 => 1813#32
  | 105 => 8557#32
  | 106 => 5513#32
  | 107 => 11009#32
  | 108 => 3749#32
  | 109 => 9853#32
  | 110 => 7113#32
  | 111 => 12033#32
  | 112 => 942#32
  | 113 => 8018#32
  | 114 => 4816#32
  | 115 => 10612#32
  | 116 => 2967#32
  | 117 => 9387#32
  | 118 => 6497#32
  | 119 => 11701#32
  | 120 => 1977#32
  | 121 => 8721#32
  | 122 => 5677#32
  | 123 => 11173#32
  | 124 => 3913#32
  | 125 => 10017#32
  | 126 => 7277#32
  | 127 => 12197#32
  | _ => 0#32

noncomputable abbrev lit0t0_23 (i : Nat) : BitVec 32 := match i % 128 with
  | 0 => 643#32
  | 1 => 7719#32
  | 2 => 4517#32
  | 3 => 10313#32
  | 4 => 2668#32
  | 5 => 9088#32
  | 6 => 6198#32
  | 7 => 11402#32
  | 8 => 1678#32
  | 9 => 8422#32
  | 10 => 5378#32
  | 11 => 10874#32
  | 12 => 3614#32
  | 13 => 9718#32
  | 14 => 6978#32
  | 15 => 11898#32
  | 16 => 847#32
  | 17 => 7923#32
  | 18 => 4721#32
  | 19 => 10517#32
  | 20 => 2872#32
  | 21 => 9292#32
  | 22 => 6402#32
  | 23 => 11606#32
  | 24 => 1882#32
  | 25 => 8626#32
  | 26 => 5582#32
  | 27 => 11078#32
  | 28 => 3818#32
  | 29 => 9922#32
  | 30 => 7182#32
  | 31 => 12102#32
  | 32 => 753#32
  | 33 => 7829#32
  | 34 => 4627#32
  | 35 => 10423#32
  | 36 => 2778#32
  | 37 => 9198#32
  | 38 => 6308#32
  | 39 => 11512#32
  | 40 => 1788#32
  | 41 => 8532#32
  | 42 => 5488#32
  | 43 => 10984#32
  | 44 => 3724#32
  | 45 => 9828#32
  | 46 => 7088#32
  | 47 => 12008#32
  | 48 => 925#32
  | 49 => 8001#32
  | 50 => 4799#32
  | 51 => 10595#32
  | 52 => 2950#32
  | 53 => 9370#32
  | 54 => 6480#32
  | 55 => 11684#32
  | 56 => 1960#32
  | 57 => 8704#32
  | 58 => 5660#32
  | 59 => 11156#32
  | 60 => 3896#32
  | 61 => 10000#32
  | 62 => 7260#32
  | 63 => 12180#32
  | 64 => 700#32
  | 65 => 7776#32
  | 66 => 4574#32
  | 67 => 10370#32
  | 68 => 2725#32
  | 69 => 9145#32
  | 70 => 6255#32
  | 71 => 11459#32
  | 72 => 1735#32
  | 73 => 8479#32
  | 74 => 5435#32
  | 75 => 10931#32
  | 76 => 3671#32
  | 77 => 9775#32
  | 78 => 7035#32
  | 79 => 11955#32
  | 80 => 888#32
  | 81 => 7964#32
  | 82 => 4762#32
  | 83 => 10558#32
  | 84 => 2913#32
  | 85 => 9333#32
  | 86 => 6443#32
  | 87 => 11647#32
  | 88 => 1923#32
  | 89 => 8667#32
  | 90 => 5623#32
  | 91 => 11119#32
  | 92 => 3859#32
  | 93 => 9963#32
  | 94 => 7223#32
  | 95 => 12143#32
  | 96 => 802#32
  | 97 => 7878#32
  | 98 => 4676#32
  | 99 => 10472#32
  | 100 => 2827#32
  | 101 => 9247#32
  | 102 => 6357#32
  | 103 => 11561#32
  | 104 => 1837#32
  | 105 => 8581#32
  | 106 => 5537#32
  | 107 => 11033#32
  | 108 => 3773#32
  | 109 => 9877#32
  | 110 => 7137#32
  | 111 => 12057#32
  | 112 => 958#32
  | 113 => 8034#32
  | 114 => 4832#32
  | 115 => 10628#32
  | 116 => 2983#32
  | 117 => 9403#32
  | 118 => 6513#32
  | 119 => 11717#32
  | 120 => 1993#32
  | 121 => 8737#32
  | 122 => 5693#32
  | 123 => 11189#32
  | 124 => 3929#32
  | 125 => 10033#32
  | 126 => 7293#32
  | 127 => 12213#32
  | _ => 0#32

noncomputable abbrev lit0t0_24 (i : Nat) : BitVec 32 := match i % 128 with
  | 0 => 603#32
  | 1 => 7679#32
  | 2 => 4477#32
  | 3 => 10273#32
  | 4 => 2628#32
  | 5 => 9048#32
  | 6 => 6158#32
  | 7 => 11362#32
  | 8 => 1638#32
  | 9 => 8382#32
  | 10 => 5338#32
  | 11 => 10834#32
  | 12 => 3574#32
  | 13 => 9678#32
  | 14 => 6938#32
  | 15 => 11858#32
  | 16 => 815#32
  | 17 => 7891#32
  | 18 => 4689#32
  | 19 => 10485#32
  | 20 => 2840#32
  | 21 => 9260#32
  | 22 => 6370#32
  | 23 => 11574#32
  | 24 => 1850#32
  | 25 => 8594#32
  | 26 => 5550#32
  | 27 => 11046#32
  | 28 => 3786#32
  | 29 => 9890#32
  | 30 => 7150#32
  | 31 => 12070#32
  | 32 => 717#32
  | 33 => 7793#32
  | 34 => 4591#32
  | 35 => 10387#32
  | 36 => 2742#32
  | 37 => 9162#32
  | 38 => 6272#32
  | 39 => 11476#32
  | 40 => 1752#32
  | 41 => 8496#32
  | 42 => 5452#32
  | 43 => 10948#32
  | 44 => 3688#32
  | 45 => 9792#32
  | 46 => 7052#32
  | 47 => 11972#32
  | 48 => 897#32
  | 49 => 7973#32
  | 50 => 4771#32
  | 51 => 10567#32
  | 52 => 2922#32
  | 53 => 9342#32
  | 54 => 6452#32
  | 55 => 11656#32
  | 56 => 1932#32
  | 57 => 8676#32
  | 58 => 5632#32
  | 59 => 11128#32
  | 60 => 3868#32
  | 61 => 9972#32
  | 62 => 7232#32
  | 63 => 12152#32
  | 64 => 662#32
  | 65 => 7738#32
  | 66 => 4536#32
  | 67 => 10332#32
  | 68 => 2687#32
  | 69 => 9107#32
  | 70 => 6217#32
  | 71 => 11421#32
  | 72 => 1697#32
  | 73 => 8441#32
  | 74 => 5397#32
  | 75 => 10893#32
  | 76 => 3633#32
  | 77 => 9737#32
  | 78 => 6997#32
  | 79 => 11917#32
  | 80 => 858#32
  | 81 => 7934#32
  | 82 => 4732#32
  | 83 => 10528#32
  | 84 => 2883#32
  | 85 => 9303#32
  | 86 => 6413#32
  | 87 => 11617#32
  | 88 => 1893#32
  | 89 => 8637#32
  | 90 => 5593#32
  | 91 => 11089#32
  | 92 => 3829#32
  | 93 => 9933#32
  | 94 => 7193#32
  | 95 => 12113#32
  | 96 => 768#32
  | 97 => 7844#32
  | 98 => 4642#32
  | 99 => 10438#32
  | 100 => 2793#32
  | 101 => 9213#32
  | 102 => 6323#32
  | 103 => 11527#32
  | 104 => 1803#32
  | 105 => 8547#32
  | 106 => 5503#32
  | 107 => 10999#32
  | 108 => 3739#32
  | 109 => 9843#32
  | 110 => 7103#32
  | 111 => 12023#32
  | 112 => 932#32
  | 113 => 8008#32
  | 114 => 4806#32
  | 115 => 10602#32
  | 116 => 2957#32
  | 117 => 9377#32
  | 118 => 6487#32
  | 119 => 11691#32
  | 120 => 1967#32
  | 121 => 8711#32
  | 122 => 5667#32
  | 123 => 11163#32
  | 124 => 3903#32
  | 125 => 10007#32
  | 126 => 7267#32
  | 127 => 12187#32
  | _ => 0#32

noncomputable abbrev lit0t0_25 (i : Nat) : BitVec 32 := match i % 128 with
  | 0 => 633#32
  | 1 => 7709#32
  | 2 => 4507#32
  | 3 => 10303#32
  | 4 => 2658#32
  | 5 => 9078#32
  | 6 => 6188#32
  | 7 => 11392#32
  | 8 => 1668#32
  | 9 => 8412#32
  | 10 => 5368#32
  | 11 => 10864#32
  | 12 => 3604#32
  | 13 => 9708#32
  | 14 => 6968#32
  | 15 => 11888#32
  | 16 => 837#32
  | 17 => 7913#32
  | 18 => 4711#32
  | 19 => 10507#32
  | 20 => 2862#32
  | 21 => 9282#32
  | 22 => 6392#32
  | 23 => 11596#32
  | 24 => 1872#32
  | 25 => 8616#32
  | 26 => 5572#32
  | 27 => 11068#32
  | 28 => 3808#32
  | 29 => 9912#32
  | 30 => 7172#32
  | 31 => 12092#32
  | 32 => 743#32
  | 33 => 7819#32
  | 34 => 4617#32
  | 35 => 10413#32
  | 36 => 2768#32
  | 37 => 9188#32
  | 38 => 6298#32
  | 39 => 11502#32
  | 40 => 1778#32
  | 41 => 8522#32
  | 42 => 5478#32
  | 43 => 10974#32
  | 44 => 3714#32
  | 45 => 9818#32
  | 46 => 7078#32
  | 47 => 11998#32
  | 48 => 915#32
  | 49 => 7991#32
  | 50 => 4789#32
  | 51 => 10585#32
  | 52 => 2940#32
  | 53 => 9360#32
  | 54 => 6470#32
  | 55 => 11674#32
  | 56 => 1950#32
  | 57 => 8694#32
  | 58 => 5650#32
  | 59 => 11146#32
  | 60 => 3886#32
  | 61 => 9990#32
  | 62 => 7250#32
  | 63 => 12170#32
  | 64 => 690#32
  | 65 => 7766#32
  | 66 => 4564#32
  | 67 => 10360#32
  | 68 => 2715#32
  | 69 => 9135#32
  | 70 => 6245#32
  | 71 => 11449#32
  | 72 => 1725#32
  | 73 => 8469#32
  | 74 => 5425#32
  | 75 => 10921#32
  | 76 => 3661#32
  | 77 => 9765#32
  | 78 => 7025#32
  | 79 => 11945#32
  | 80 => 878#32
  | 81 => 7954#32
  | 82 => 4752#32
  | 83 => 10548#32
  | 84 => 2903#32
  | 85 => 9323#32
  | 86 => 6433#32
  | 87 => 11637#32
  | 88 => 1913#32
  | 89 => 8657#32
  | 90 => 5613#32
  | 91 => 11109#32
  | 92 => 3849#32
  | 93 => 9953#32
  | 94 => 7213#32
  | 95 => 12133#32
  | 96 => 792#32
  | 97 => 7868#32
  | 98 => 4666#32
  | 99 => 10462#32
  | 100 => 2817#32
  | 101 => 9237#32
  | 102 => 6347#32
  | 103 => 11551#32
  | 104 => 1827#32
  | 105 => 8571#32
  | 106 => 5527#32
  | 107 => 11023#32
  | 108 => 3763#32
  | 109 => 9867#32
  | 110 => 7127#32
  | 111 => 12047#32
  | 112 => 948#32
  | 113 => 8024#32
  | 114 => 4822#32
  | 115 => 10618#32
  | 116 => 2973#32
  | 117 => 9393#32
  | 118 => 6503#32
  | 119 => 11707#32
  | 120 => 1983#32
  | 121 => 8727#32
  | 122 => 5683#32
  | 123 => 11179#32
  | 124 => 3919#32
  | 125 => 10023#32
  | 126 => 7283#32
  | 127 => 12203#32
  | _ => 0#32

noncomputable abbrev lit0t0_26 (i : Nat) : BitVec 32 := match i % 128 with
  | 0 => 611#32
  | 1 => 7687#32
  | 2 => 4485#32
  | 3 => 10281#32
  | 4 => 2636#32
  | 5 => 9056#32
  | 6 => 6166#32
  | 7 => 11370#32
  | 8 => 1646#32
  | 9 => 8390#32
  | 10 => 5346#32
  | 11 => 10842#32
  | 12 => 3582#32
  | 13 => 9686#32
  | 14 => 6946#32
  | 15 => 11866#32
  | 16 => 823#32
  | 17 => 7899#32
  | 18 => 4697#32
  | 19 => 10493#32
  | 20 => 2848#32
  | 21 => 9268#32
  | 22 => 6378#32
  | 23 => 11582#32
  | 24 => 1858#32
  | 25 => 8602#32
  | 26 => 5558#32
  | 27 => 11054#32
  | 28 => 3794#32
  | 29 => 9898#32
  | 30 => 7158#32
  | 31 => 12078#32
  | 32 => 725#32
  | 33 => 7801#32
  | 34 => 4599#32
  | 35 => 10395#32
  | 36 => 2750#32
  | 37 => 9170#32
  | 38 => 6280#32
  | 39 => 11484#32
  | 40 => 1760#32
  | 41 => 8504#32
  | 42 => 5460#32
  | 43 => 10956#32
  | 44 => 3696#32
  | 45 => 9800#32
  | 46 => 7060#32
  | 47 => 11980#32
  | 48 => 905#32
  | 49 => 7981#32
  | 50 => 4779#32
  | 51 => 10575#32
  | 52 => 2930#32
  | 53 => 9350#32
  | 54 => 6460#32
  | 55 => 11664#32
  | 56 => 1940#32
  | 57 => 8684#32
  | 58 => 5640#32
  | 59 => 11136#32
  | 60 => 3876#32
  | 61 => 9980#32
  | 62 => 7240#32
  | 63 => 12160#32
  | 64 => 670#32
  | 65 => 7746#32
  | 66 => 4544#32
  | 67 => 10340#32
  | 68 => 2695#32
  | 69 => 9115#32
  | 70 => 6225#32
  | 71 => 11429#32
  | 72 => 1705#32
  | 73 => 8449#32
  | 74 => 5405#32
  | 75 => 10901#32
  | 76 => 3641#32
  | 77 => 9745#32
  | 78 => 7005#32
  | 79 => 11925#32
  | 80 => 866#32
  | 81 => 7942#32
  | 82 => 4740#32
  | 83 => 10536#32
  | 84 => 2891#32
  | 85 => 9311#32
  | 86 => 6421#32
  | 87 => 11625#32
  | 88 => 1901#32
  | 89 => 8645#32
  | 90 => 5601#32
  | 91 => 11097#32
  | 92 => 3837#32
  | 93 => 9941#32
  | 94 => 7201#32
  | 95 => 12121#32
  | 96 => 776#32
  | 97 => 7852#32
  | 98 => 4650#32
  | 99 => 10446#32
  | 100 => 2801#32
  | 101 => 9221#32
  | 102 => 6331#32
  | 103 => 11535#32
  | 104 => 1811#32
  | 105 => 8555#32
  | 106 => 5511#32
  | 107 => 11007#32
  | 108 => 3747#32
  | 109 => 9851#32
  | 110 => 7111#32
  | 111 => 12031#32
  | 112 => 940#32
  | 113 => 8016#32
  | 114 => 4814#32
  | 115 => 10610#32
  | 116 => 2965#32
  | 117 => 9385#32
  | 118 => 6495#32
  | 119 => 11699#32
  | 120 => 1975#32
  | 121 => 8719#32
  | 122 => 5675#32
  | 123 => 11171#32
  | 124 => 3911#32
  | 125 => 10015#32
  | 126 => 7275#32
  | 127 => 12195#32
  | _ => 0#32

noncomputable abbrev lit0t0_27 (i : Nat) : BitVec 32 := match i % 128 with
  | 0 => 641#32
  | 1 => 7717#32
  | 2 => 4515#32
  | 3 => 10311#32
  | 4 => 2666#32
  | 5 => 9086#32
  | 6 => 6196#32
  | 7 => 11400#32
  | 8 => 1676#32
  | 9 => 8420#32
  | 10 => 5376#32
  | 11 => 10872#32
  | 12 => 3612#32
  | 13 => 9716#32
  | 14 => 6976#32
  | 15 => 11896#32
  | 16 => 845#32
  | 17 => 7921#32
  | 18 => 4719#32
  | 19 => 10515#32
  | 20 => 2870#32
  | 21 => 9290#32
  | 22 => 6400#32
  | 23 => 11604#32
  | 24 => 1880#32
  | 25 => 8624#32
  | 26 => 5580#32
  | 27 => 11076#32
  | 28 => 3816#32
  | 29 => 9920#32
  | 30 => 7180#32
  | 31 => 12100#32
  | 32 => 751#32
  | 33 => 7827#32
  | 34 => 4625#32
  | 35 => 10421#32
  | 36 => 2776#32
  | 37 => 9196#32
  | 38 => 6306#32
  | 39 => 11510#32
  | 40 => 1786#32
  | 41 => 8530#32
  | 42 => 5486#32
  | 43 => 10982#32
  | 44 => 3722#32
  | 45 => 9826#32
  | 46 => 7086#32
  | 47 => 12006#32
  | 48 => 923#32
  | 49 => 7999#32
  | 50 => 4797#32
  | 51 => 10593#32
  | 52 => 2948#32
  | 53 => 9368#32
  | 54 => 6478#32
  | 55 => 11682#32
  | 56 => 1958#32
  | 57 => 8702#32
  | 58 => 5658#32
  | 59 => 11154#32
  | 60 => 3894#32
  | 61 => 9998#32
  | 62 => 7258#32
  | 63 => 12178#32
  | 64 => 698#32
  | 65 => 7774#32
  | 66 => 4572#32
  | 67 => 10368#32
  | 68 => 2723#32
  | 69 => 9143#32
  | 70 => 6253#32
  | 71 => 11457#32
  | 72 => 1733#32
  | 73 => 8477#32
  | 74 => 5433#32
  | 75 => 10929#32
  | 76 => 3669#32
  | 77 => 9773#32
  | 78 => 7033#32
  | 79 => 11953#32
  | 80 => 886#32
  | 81 => 7962#32
  | 82 => 4760#32
  | 83 => 10556#32
  | 84 => 2911#32
  | 85 => 9331#32
  | 86 => 6441#32
  | 87 => 11645#32
  | 88 => 1921#32
  | 89 => 8665#32
  | 90 => 5621#32
  | 91 => 11117#32
  | 92 => 3857#32
  | 93 => 9961#32
  | 94 => 7221#32
  | 95 => 12141#32
  | 96 => 800#32
  | 97 => 7876#32
  | 98 => 4674#32
  | 99 => 10470#32
  | 100 => 2825#32
  | 101 => 9245#32
  | 102 => 6355#32
  | 103 => 11559#32
  | 104 => 1835#32
  | 105 => 8579#32
  | 106 => 5535#32
  | 107 => 11031#32
  | 108 => 3771#32
  | 109 => 9875#32
  | 110 => 7135#32
  | 111 => 12055#32
  | 112 => 956#32
  | 113 => 8032#32
  | 114 => 4830#32
  | 115 => 10626#32
  | 116 => 2981#32
  | 117 => 9401#32
  | 118 => 6511#32
  | 119 => 11715#32
  | 120 => 1991#32
  | 121 => 8735#32
  | 122 => 5691#32
  | 123 => 11187#32
  | 124 => 3927#32
  | 125 => 10031#32
  | 126 => 7291#32
  | 127 => 12211#32
  | _ => 0#32

noncomputable abbrev lit0t0_28 (i : Nat) : BitVec 32 := match i % 128 with
  | 0 => 607#32
  | 1 => 7683#32
  | 2 => 4481#32
  | 3 => 10277#32
  | 4 => 2632#32
  | 5 => 9052#32
  | 6 => 6162#32
  | 7 => 11366#32
  | 8 => 1642#32
  | 9 => 8386#32
  | 10 => 5342#32
  | 11 => 10838#32
  | 12 => 3578#32
  | 13 => 9682#32
  | 14 => 6942#32
  | 15 => 11862#32
  | 16 => 819#32
  | 17 => 7895#32
  | 18 => 4693#32
  | 19 => 10489#32
  | 20 => 2844#32
  | 21 => 9264#32
  | 22 => 6374#32
  | 23 => 11578#32
  | 24 => 1854#32
  | 25 => 8598#32
  | 26 => 5554#32
  | 27 => 11050#32
  | 28 => 3790#32
  | 29 => 9894#32
  | 30 => 7154#32
  | 31 => 12074#32
  | 32 => 721#32
  | 33 => 7797#32
  | 34 => 4595#32
  | 35 => 10391#32
  | 36 => 2746#32
  | 37 => 9166#32
  | 38 => 6276#32
  | 39 => 11480#32
  | 40 => 1756#32
  | 41 => 8500#32
  | 42 => 5456#32
  | 43 => 10952#32
  | 44 => 3692#32
  | 45 => 9796#32
  | 46 => 7056#32
  | 47 => 11976#32
  | 48 => 901#32
  | 49 => 7977#32
  | 50 => 4775#32
  | 51 => 10571#32
  | 52 => 2926#32
  | 53 => 9346#32
  | 54 => 6456#32
  | 55 => 11660#32
  | 56 => 1936#32
  | 57 => 8680#32
  | 58 => 5636#32
  | 59 => 11132#32
  | 60 => 3872#32
  | 61 => 9976#32
  | 62 => 7236#32
  | 63 => 12156#32
  | 64 => 666#32
  | 65 => 7742#32
  | 66 => 4540#32
  | 67 => 10336#32
  | 68 => 2691#32
  | 69 => 9111#32
  | 70 => 6221#32
  | 71 => 11425#32
  | 72 => 1701#32
  | 73 => 8445#32
  | 74 => 5401#32
  | 75 => 10897#32
  | 76 => 3637#32
  | 77 => 9741#32
  | 78 => 7001#32
  | 79 => 11921#32
  | 80 => 862#32
  | 81 => 7938#32
  | 82 => 4736#32
  | 83 => 10532#32
  | 84 => 2887#32
  | 85 => 9307#32
  | 86 => 6417#32
  | 87 => 11621#32
  | 88 => 1897#32
  | 89 => 8641#32
  | 90 => 5597#32
  | 91 => 11093#32
  | 92 => 3833#32
  | 93 => 9937#32
  | 94 => 7197#32
  | 95 => 12117#32
  | 96 => 772#32
  | 97 => 7848#32
  | 98 => 4646#32
  | 99 => 10442#32
  | 100 => 2797#32
  | 101 => 9217#32
  | 102 => 6327#32
  | 103 => 11531#32
  | 104 => 1807#32
  | 105 => 8551#32
  | 106 => 5507#32
  | 107 => 11003#32
  | 108 => 3743#32
  | 109 => 9847#32
  | 110 => 7107#32
  | 111 => 12027#32
  | 112 => 936#32
  | 113 => 8012#32
  | 114 => 4810#32
  | 115 => 10606#32
  | 116 => 2961#32
  | 117 => 9381#32
  | 118 => 6491#32
  | 119 => 11695#32
  | 120 => 1971#32
  | 121 => 8715#32
  | 122 => 5671#32
  | 123 => 11167#32
  | 124 => 3907#32
  | 125 => 10011#32
  | 126 => 7271#32
  | 127 => 12191#32
  | _ => 0#32

noncomputable abbrev lit0t0_29 (i : Nat) : BitVec 32 := match i % 128 with
  | 0 => 637#32
  | 1 => 7713#32
  | 2 => 4511#32
  | 3 => 10307#32
  | 4 => 2662#32
  | 5 => 9082#32
  | 6 => 6192#32
  | 7 => 11396#32
  | 8 => 1672#32
  | 9 => 8416#32
  | 10 => 5372#32
  | 11 => 10868#32
  | 12 => 3608#32
  | 13 => 9712#32
  | 14 => 6972#32
  | 15 => 11892#32
  | 16 => 841#32
  | 17 => 7917#32
  | 18 => 4715#32
  | 19 => 10511#32
  | 20 => 2866#32
  | 21 => 9286#32
  | 22 => 6396#32
  | 23 => 11600#32
  | 24 => 1876#32
  | 25 => 8620#32
  | 26 => 5576#32
  | 27 => 11072#32
  | 28 => 3812#32
  | 29 => 9916#32
  | 30 => 7176#32
  | 31 => 12096#32
  | 32 => 747#32
  | 33 => 7823#32
  | 34 => 4621#32
  | 35 => 10417#32
  | 36 => 2772#32
  | 37 => 9192#32
  | 38 => 6302#32
  | 39 => 11506#32
  | 40 => 1782#32
  | 41 => 8526#32
  | 42 => 5482#32
  | 43 => 10978#32
  | 44 => 3718#32
  | 45 => 9822#32
  | 46 => 7082#32
  | 47 => 12002#32
  | 48 => 919#32
  | 49 => 7995#32
  | 50 => 4793#32
  | 51 => 10589#32
  | 52 => 2944#32
  | 53 => 9364#32
  | 54 => 6474#32
  | 55 => 11678#32
  | 56 => 1954#32
  | 57 => 8698#32
  | 58 => 5654#32
  | 59 => 11150#32
  | 60 => 3890#32
  | 61 => 9994#32
  | 62 => 7254#32
  | 63 => 12174#32
  | 64 => 694#32
  | 65 => 7770#32
  | 66 => 4568#32
  | 67 => 10364#32
  | 68 => 2719#32
  | 69 => 9139#32
  | 70 => 6249#32
  | 71 => 11453#32
  | 72 => 1729#32
  | 73 => 8473#32
  | 74 => 5429#32
  | 75 => 10925#32
  | 76 => 3665#32
  | 77 => 9769#32
  | 78 => 7029#32
  | 79 => 11949#32
  | 80 => 882#32
  | 81 => 7958#32
  | 82 => 4756#32
  | 83 => 10552#32
  | 84 => 2907#32
  | 85 => 9327#32
  | 86 => 6437#32
  | 87 => 11641#32
  | 88 => 1917#32
  | 89 => 8661#32
  | 90 => 5617#32
  | 91 => 11113#32
  | 92 => 3853#32
  | 93 => 9957#32
  | 94 => 7217#32
  | 95 => 12137#32
  | 96 => 796#32
  | 97 => 7872#32
  | 98 => 4670#32
  | 99 => 10466#32
  | 100 => 2821#32
  | 101 => 9241#32
  | 102 => 6351#32
  | 103 => 11555#32
  | 104 => 1831#32
  | 105 => 8575#32
  | 106 => 5531#32
  | 107 => 11027#32
  | 108 => 3767#32
  | 109 => 9871#32
  | 110 => 7131#32
  | 111 => 12051#32
  | 112 => 952#32
  | 113 => 8028#32
  | 114 => 4826#32
  | 115 => 10622#32
  | 116 => 2977#32
  | 117 => 9397#32
  | 118 => 6507#32
  | 119 => 11711#32
  | 120 => 1987#32
  | 121 => 8731#32
  | 122 => 5687#32
  | 123 => 11183#32
  | 124 => 3923#32
  | 125 => 10027#32
  | 126 => 7287#32
  | 127 => 12207#32
  | _ => 0#32

noncomputable abbrev lit0t0_30 (i : Nat) : BitVec 32 := match i % 128 with
  | 0 => 615#32
  | 1 => 7691#32
  | 2 => 4489#32
  | 3 => 10285#32
  | 4 => 2640#32
  | 5 => 9060#32
  | 6 => 6170#32
  | 7 => 11374#32
  | 8 => 1650#32
  | 9 => 8394#32
  | 10 => 5350#32
  | 11 => 10846#32
  | 12 => 3586#32
  | 13 => 9690#32
  | 14 => 6950#32
  | 15 => 11870#32
  | 16 => 827#32
  | 17 => 7903#32
  | 18 => 4701#32
  | 19 => 10497#32
  | 20 => 2852#32
  | 21 => 9272#32
  | 22 => 6382#32
  | 23 => 11586#32
  | 24 => 1862#32
  | 25 => 8606#32
  | 26 => 5562#32
  | 27 => 11058#32
  | 28 => 3798#32
  | 29 => 9902#32
  | 30 => 7162#32
  | 31 => 12082#32
  | 32 => 729#32
  | 33 => 7805#32
  | 34 => 4603#32
  | 35 => 10399#32
  | 36 => 2754#32
  | 37 => 9174#32
  | 38 => 6284#32
  | 39 => 11488#32
  | 40 => 1764#32
  | 41 => 8508#32
  | 42 => 5464#32
  | 43 => 10960#32
  | 44 => 3700#32
  | 45 => 9804#32
  | 46 => 7064#32
  | 47 => 11984#32
  | 48 => 909#32
  | 49 => 7985#32
  | 50 => 4783#32
  | 51 => 10579#32
  | 52 => 2934#32
  | 53 => 9354#32
  | 54 => 6464#32
  | 55 => 11668#32
  | 56 => 1944#32
  | 57 => 8688#32
  | 58 => 5644#32
  | 59 => 11140#32
  | 60 => 3880#32
  | 61 => 9984#32
  | 62 => 7244#32
  | 63 => 12164#32
  | 64 => 674#32
  | 65 => 7750#32
  | 66 => 4548#32
  | 67 => 10344#32
  | 68 => 2699#32
  | 69 => 9119#32
  | 70 => 6229#32
  | 71 => 11433#32
  | 72 => 1709#32
  | 73 => 8453#32
  | 74 => 5409#32
  | 75 => 10905#32
  | 76 => 3645#32
  | 77 => 9749#32
  | 78 => 7009#32
  | 79 => 11929#32
  | 80 => 870#32
  | 81 => 7946#32
  | 82 => 4744#32
  | 83 => 10540#32
  | 84 => 2895#32
  | 85 => 9315#32
  | 86 => 6425#32
  | 87 => 11629#32
  | 88 => 1905#32
  | 89 => 8649#32
  | 90 => 5605#32
  | 91 => 11101#32
  | 92 => 3841#32
  | 93 => 9945#32
  | 94 => 7205#32
  | 95 => 12125#32
  | 96 => 780#32
  | 97 => 7856#32
  | 98 => 4654#32
  | 99 => 10450#32
  | 100 => 2805#32
  | 101 => 9225#32
  | 102 => 6335#32
  | 103 => 11539#32
  | 104 => 1815#32
  | 105 => 8559#32
  | 106 => 5515#32
  | 107 => 11011#32
  | 108 => 3751#32
  | 109 => 9855#32
  | 110 => 7115#32
  | 111 => 12035#32
  | 112 => 944#32
  | 113 => 8020#32
  | 114 => 4818#32
  | 115 => 10614#32
  | 116 => 2969#32
  | 117 => 9389#32
  | 118 => 6499#32
  | 119 => 11703#32
  | 120 => 1979#32
  | 121 => 8723#32
  | 122 => 5679#32
  | 123 => 11175#32
  | 124 => 3915#32
  | 125 => 10019#32
  | 126 => 7279#32
  | 127 => 12199#32
  | _ => 0#32

noncomputable abbrev lit0t0_31 (i : Nat) : BitVec 32 := match i % 128 with
  | 0 => 645#32
  | 1 => 7721#32
  | 2 => 4519#32
  | 3 => 10315#32
  | 4 => 2670#32
  | 5 => 9090#32
  | 6 => 6200#32
  | 7 => 11404#32
  | 8 => 1680#32
  | 9 => 8424#32
  | 10 => 5380#32
  | 11 => 10876#32
  | 12 => 3616#32
  | 13 => 9720#32
  | 14 => 6980#32
  | 15 => 11900#32
  | 16 => 849#32
  | 17 => 7925#32
  | 18 => 4723#32
  | 19 => 10519#32
  | 20 => 2874#32
  | 21 => 9294#32
  | 22 => 6404#32
  | 23 => 11608#32
  | 24 => 1884#32
  | 25 => 8628#32
  | 26 => 5584#32
  | 27 => 11080#32
  | 28 => 3820#32
  | 29 => 9924#32
  | 30 => 7184#32
  | 31 => 12104#32
  | 32 => 755#32
  | 33 => 7831#32
  | 34 => 4629#32
  | 35 => 10425#32
  | 36 => 2780#32
  | 37 => 9200#32
  | 38 => 6310#32
  | 39 => 11514#32
  | 40 => 1790#32
  | 41 => 8534#32
  | 42 => 5490#32
  | 43 => 10986#32
  | 44 => 3726#32
  | 45 => 9830#32
  | 46 => 7090#32
  | 47 => 12010#32
  | 48 => 927#32
  | 49 => 8003#32
  | 50 => 4801#32
  | 51 => 10597#32
  | 52 => 2952#32
  | 53 => 9372#32
  | 54 => 6482#32
  | 55 => 11686#32
  | 56 => 1962#32
  | 57 => 8706#32
  | 58 => 5662#32
  | 59 => 11158#32
  | 60 => 3898#32
  | 61 => 10002#32
  | 62 => 7262#32
  | 63 => 12182#32
  | 64 => 702#32
  | 65 => 7778#32
  | 66 => 4576#32
  | 67 => 10372#32
  | 68 => 2727#32
  | 69 => 9147#32
  | 70 => 6257#32
  | 71 => 11461#32
  | 72 => 1737#32
  | 73 => 8481#32
  | 74 => 5437#32
  | 75 => 10933#32
  | 76 => 3673#32
  | 77 => 9777#32
  | 78 => 7037#32
  | 79 => 11957#32
  | 80 => 890#32
  | 81 => 7966#32
  | 82 => 4764#32
  | 83 => 10560#32
  | 84 => 2915#32
  | 85 => 9335#32
  | 86 => 6445#32
  | 87 => 11649#32
  | 88 => 1925#32
  | 89 => 8669#32
  | 90 => 5625#32
  | 91 => 11121#32
  | 92 => 3861#32
  | 93 => 9965#32
  | 94 => 7225#32
  | 95 => 12145#32
  | 96 => 804#32
  | 97 => 7880#32
  | 98 => 4678#32
  | 99 => 10474#32
  | 100 => 2829#32
  | 101 => 9249#32
  | 102 => 6359#32
  | 103 => 11563#32
  | 104 => 1839#32
  | 105 => 8583#32
  | 106 => 5539#32
  | 107 => 11035#32
  | 108 => 3775#32
  | 109 => 9879#32
  | 110 => 7139#32
  | 111 => 12059#32
  | 112 => 960#32
  | 113 => 8036#32
  | 114 => 4834#32
  | 115 => 10630#32
  | 116 => 2985#32
  | 117 => 9405#32
  | 118 => 6515#32
  | 119 => 11719#32
  | 120 => 1995#32
  | 121 => 8739#32
  | 122 => 5695#32
  | 123 => 11191#32
  | 124 => 3931#32
  | 125 => 10035#32
  | 126 => 7295#32
  | 127 => 12215#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | _ => 0#32

noncomputable abbrev lit0 : Fin 4096 → BitVec 32 := fun ⟨i, _⟩ => lit0t i

def fn {F : FTy → Type} [FloatOps F] (main_arg0 : FVec F S4096x4096 .f32) (main_arg1 : IVec S4096 32) : IVec S_ 1 :=
  let main_c : IVec S4096 32 := fun i => lit0 (S4096.rowMajor i)
  let main_v0 : IVec S4096 1 := cmpi .eq main_arg1 main_c
  let main_c_0 : IVec S_ 1 := constantI S_ 1 1#1
  let main_v1 : IVec S_ 1 := (fun x v => Host.reduce IntOp.andi x v reducesTo_S4096_S_d0 h_S_) main_v0 main_c_0
  main_v1
-- ==== Kernel.lean ====
abbrev S4096x4096 : Shape := ⟨2, ![4096, 4096]⟩
abbrev S4096 : Shape := ⟨1, ![4096]⟩
abbrev S17296x4096 : Shape := ⟨2, ![17296, 4096]⟩
abbrev S256x4096 : Shape := ⟨2, ![256, 4096]⟩
abbrev S17296x256 : Shape := ⟨2, ![17296, 256]⟩
abbrev S256 : Shape := ⟨1, ![256]⟩
abbrev S256x1 : Shape := ⟨2, ![256, 1]⟩
abbrev S256x256 : Shape := ⟨2, ![256, 256]⟩
abbrev S4096x256 : Shape := ⟨2, ![4096, 256]⟩
abbrev S16x256x256 : Shape := ⟨3, ![16, 256, 256]⟩
abbrev S16x1x256 : Shape := ⟨3, ![16, 1, 256]⟩
abbrev S16x256 : Shape := ⟨2, ![16, 256]⟩
abbrev S4096x17296 : Shape := ⟨2, ![4096, 17296]⟩

abbrev nBuf : Space → Nat
  | .hbm => 4
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S17296x4096, .f32⟩
  | .hbm, ⟨3, _⟩ => ⟨S4096x17296, .f32⟩
  | .local _ .vmem, ⟨0, _⟩ => ⟨S256x4096, .f32⟩
  | .local _ .vmem, ⟨1, _⟩ => ⟨S256x4096, .f32⟩
  | .local _ .vmem, ⟨2, _⟩ => ⟨S17296x256, .f32⟩
  | .local _ .vmem, ⟨3, _⟩ => ⟨S17296x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S17296x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4096x17296 : Shape := ⟨2, ![4096, 17296]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x17296, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x17296, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Rows.lean ====
/-
  WHERE EACH COLUMN OF THE FEATURE ARRAY GOES.

  The 17296 places of the result are the triples of three distinct positions out of 48, in lexicographic order. The
  4096 columns of the feature array are the triples (a, b, k) of three numbers below 16, and the triple (a, b, k) goes to
  the place of `a < 16 + b < 32 + k`. The bits of a column's number spell `k`, `b` and `a`, each with its bits reversed.
  This file says so in plain arithmetic of natural numbers, and proves that no two columns go to the same place.
-/
module

public import Mathlib.Order.Basic
public import Mathlib.Tactic.Ring

@[expose] public section

namespace Cert.Rows

/-- The number below 16 whose four binary digits are those of `n` in the opposite order. -/
def rev4 (n : ℕ) : ℕ := 8 * (n % 2) + 4 * (n / 2 % 2) + 2 * (n / 4 % 2) + n / 8 % 2

/-- The place of the triple `(a, b, 0)`, for the pair `(a, b)` numbered `n = 16 a + b`: how many lexicographically smaller
triples of positions there are. -/
def sortedBase (n : ℕ) : ℕ :=
  17296 - (48 - n / 16) * (47 - n / 16) * (46 - n / 16) / 6 + (47 - n / 16) * (46 - n / 16) / 2
    - (32 - n % 16) * (31 - n % 16) / 2 + (15 - n % 16)

/-- The number of the pair which the low eight bits `r` of a column spell. -/
def slot (r : ℕ) : ℕ := 16 * rev4 (r % 16) + rev4 (r / 16)

/-- The place of the first of the sixteen columns whose low eight bits are `r`. -/
def base (r : ℕ) : ℕ := sortedBase (slot r)

/-- The place where column `c` goes. -/
def rowOf (c : ℕ) : ℕ := base (c % 256) + rev4 (c / 256)

/-- The column whose low eight bits are `r` and whose place is the `k`-th of its run. -/
def colOf (r k : ℕ) : ℕ := 256 * rev4 k + r

/-- Four bits reversed are four bits. -/
theorem rev4_lt (n : ℕ) : rev4 n < 16 := by unfold rev4; omega

/-- Reversing four bits twice gives them back. -/
theorem rev4_rev4 (n : ℕ) (h : n < 16) : rev4 (rev4 n) = n := by
  have : ∀ n < 16, rev4 (rev4 n) = n := by decide
  exact this n h

/-- A pair's number is below 256. -/
theorem slot_lt (r : ℕ) : slot r < 256 := by
  have h₀ := rev4_lt (r % 16)
  have h₁ := rev4_lt (r / 16)
  unfold slot
  omega

/-- Spelling a pair twice gives it back. -/
theorem slot_slot (r : ℕ) (h : r < 256) : slot (slot r) = r := by
  have h₀ := rev4_lt (r % 16)
  have h₁ := rev4_lt (r / 16)
  have e₀ : slot r % 16 = rev4 (r / 16) := by unfold slot; omega
  have e₁ : slot r / 16 = rev4 (r % 16) := by unfold slot; omega
  have : slot (slot r) = 16 * rev4 (slot r % 16) + rev4 (slot r / 16) := rfl
  rw [this, e₀, e₁, rev4_rev4 _ (by omega), rev4_rev4 _ (by omega)]
  omega

/-- The runs of two neighbouring pairs lie one after the other. -/
theorem sortedBase_succ : ∀ n < 255, sortedBase n + 16 ≤ sortedBase (n + 1) := by decide +kernel

/-- The run of a smaller pair lies before the run of a larger one. -/
theorem sortedBase_lt (m n : ℕ) (hmn : m < n) (hn : n < 256) : sortedBase m + 16 ≤ sortedBase n := by
  induction n with
  | zero => omega
  | succ n ih =>
    have hs := sortedBase_succ n (by omega)
    rcases Nat.lt_or_ge m n with h | h
    · have := ih h (by omega)
      omega
    · obtain rfl : m = n := by omega
      exact hs

/-- A run of sixteen places lies within the 17296 places. -/
theorem base_le (r : ℕ) : base r + 16 ≤ 17296 := by
  have h : ∀ n < 256, sortedBase n + 16 ≤ 17296 := by decide +kernel
  exact h _ (slot_lt r)

/-- A place lies in one run at most. -/
theorem base_unique (r r' p : ℕ) (hr : r < 256) (hr' : r' < 256) (h : base r ≤ p ∧ p < base r + 16)
    (h' : base r' ≤ p ∧ p < base r' + 16) : r = r' := by
  have hs : slot r = slot r' := by
    rcases Nat.lt_trichotomy (slot r) (slot r') with hlt | heq | hlt
    · have := sortedBase_lt _ _ hlt (slot_lt r')
      unfold base at h h'
      omega
    · exact heq
    · have := sortedBase_lt _ _ hlt (slot_lt r)
      unfold base at h h'
      omega
  rw [← slot_slot r hr, ← slot_slot r' hr', hs]

/-- The `k`-th place of run `r` is the place of its `k`-th column. -/
theorem rowOf_colOf (r k : ℕ) (hr : r < 256) (hk : k < 16) : rowOf (colOf r k) = base r + k := by
  have e₀ : colOf r k % 256 = r := by unfold colOf; omega
  have e₁ : colOf r k / 256 = rev4 k := by unfold colOf; omega
  unfold rowOf
  rw [e₀, e₁, rev4_rev4 k hk]

/-- The column of a run's place is one of the 4096. -/
theorem colOf_lt (r k : ℕ) (hr : r < 256) : colOf r k < 4096 := by
  have := rev4_lt k
  unfold colOf
  omega

/-- A column's place is one of the 17296. -/
theorem rowOf_lt (c : ℕ) : rowOf c < 17296 := by
  have h₀ := base_le (c % 256)
  have h₁ := rev4_lt (c / 256)
  unfold rowOf
  omega

/-- A column's place lies in the run of its low eight bits. -/
theorem rowOf_mem (c : ℕ) : base (c % 256) ≤ rowOf c ∧ rowOf c < base (c % 256) + 16 := by
  have := rev4_lt (c / 256)
  unfold rowOf
  omega

/-- No two columns go to the same place. -/
theorem rowOf_inj (c c' : ℕ) (hc : c < 4096) (hc' : c' < 4096) (h : rowOf c = rowOf c') : c = c' := by
  have hm := base_unique (c % 256) (c' % 256) (rowOf c) (Nat.mod_lt _ (by omega)) (Nat.mod_lt _ (by omega)) (rowOf_mem c)
    (h ▸ rowOf_mem c')
  unfold rowOf at h
  rw [hm] at h
  have hd : rev4 (c / 256) = rev4 (c' / 256) := by omega
  have hq : c / 256 = c' / 256 := by
    rw [← rev4_rev4 (c / 256) (by omega), ← rev4_rev4 (c' / 256) (by omega), hd]
  omega

end Cert.Rows
-- ==== Proof.Block.lean ====
/-
  WHAT ONE BLOCK COMPUTES.

  A block holds 256 rows of the feature array. The kernel divides each row by its norm, puts sixteen slices of 256 columns
  side by side in another order, turns the result over and cuts it into sixteen layers. Layer `k` at position `r` is then
  column `256 rev4 k + r` of the divided rows.
-/
module

public import proofs.«01_k».proof.Proof.Gen.KernelIdeal.Skeleton
public import proofs.«01_k».proof.Proof.Rows
public import Idealize.ShloMosaic.Lib.Pointwise
public import Idealize.ShloMosaic.Lib.Pipeline.Value
public import Idealize.ShloMosaic.Lib.WritesUnit

@[expose] public section

set_option maxRecDepth 16384

noncomputable section

namespace Cert.Block

open Idealize.ShloMosaic Cert.KernelIdeal Cert.KernelIdeal.Gen Cert.Rows

variable {F : FTy → Type} [FloatOps F]

/-- The rows of a block, each divided by the larger of its norm and a small number. -/
def normed (x : Vec F S256x4096 .f32) : FVec F S256x4096 .f32 :=
  divf x (broadcastTo S256x4096
    (maximumf
      (sqrt (shapeCast S256x1
        (multiReduction .add [1] S256 (mulf x x) 0x00000000#32 reduces_S256x4096_S256 (.inl rfl) rfl) shapeCasts_S256_S256x1))
      (broadcast S256x1 (Scalar.ofBits .f32 0x2B8CBCCC#32))) broadcasts_S256x1_S256x4096)

/-- The slice of 256 columns that starts at column `256 rev4 n` lies within the block. -/
theorem slice_fits (n : Fin 16) : S256x4096.Slices ![0, 256 * rev4 n] S256x256 := by
  revert n
  decide

/-- The sixteen slices of a block side by side, in the kernel's order. -/
def sideBySide (v : FVec F S256x4096 .f32) : FVec F S256x4096 .f32 :=
  concatenate S256x4096 1
    (List.ofFn fun n : Fin 16 => (⟨S256x256, extractStridedSlice S256x256 ![0, 256 * rev4 n] v (slice_fits n)⟩ :
      (s : Shape) × (s.Idx → F .f32)))
    concatenates_S256x256_S256x256_S256x256_S256x256_S256x256_S256x256_S256x256_S256x256_S256x256_S256x256_S256x256_S256x256_S256x256_S256x256_S256x256_S256x256_S256x4096_d1

/-- Column `c` of the slices side by side is the column of the block whose place in its run is `c / 256` and whose low
eight bits are those of `c`. -/
theorem sideBySide_apply (v : FVec F S256x4096 .f32) (j : Fin 256) (c : Fin 4096) :
    sideBySide v (ix2 j c) = v (ix2 j ⟨colOf (c.val % 256) (c.val / 256), colOf_lt _ _ (Nat.mod_lt _ (by omega))⟩) := by
  refine (concatenate_ofFn_apply (t := S256x4096) (s₁ := S256x256) 1
    (fun n : Fin 16 => extractStridedSlice S256x256 ![0, 256 * rev4 n] v (slice_fits n)) _ rfl 256 rfl (ix2 j c)
    ⟨c.val / 256, by omega⟩ rfl (ix2 j ⟨c.val % 256, Nat.mod_lt _ (by omega)⟩) rfl ?_).trans ?_
  · intro b hb
    match b with
    | ⟨0, _⟩ => rfl
    | ⟨1, _⟩ => exact absurd rfl hb
  · pointwise
    simp [colOf]

/-- The sixteen layers are the divided rows, their columns in another order: at layer `k` and position `r` column
`256 rev4 k + r`. -/
theorem layers_apply (x : Vec F S256x4096 .f32) (k : Fin 16) (r j : Fin 256) :
    k0_pay4 x (ix3 k r j) = normed x (ix2 j ⟨colOf r k, colOf_lt r k r.isLt⟩) := by
  have hp : k0_pay4 x = shapeCast S16x256x256 (transpose S4096x256 [1, 0] (sideBySide (normed x))
      transposes_S256x4096_p1_0_S4096x256) shapeCasts_S4096x256_S16x256x256 := rfl
  rw [hp]
  pointwise
  rw [sideBySide_apply]
  congr 3
  have e₀ : (k.val * 256 + r.val) % 256 = r.val := by omega
  have e₁ : (k.val * 256 + r.val) / 256 = k.val := by omega
  rw [e₀, e₁]

/-- Run `r` of sixteen places, as the kernel cuts it from the layers. -/
theorem run_apply (v : FVec F S16x256x256 .f32) (r : ℕ) (hr : r < 256) (hs : S16x256x256.Slices ![0, r, 0] S16x1x256)
    (k : Fin 16) (j : Fin 256) :
    shapeCast S16x256 (extractStridedSlice S16x1x256 ![0, r, 0] v hs) shapeCasts_S16x1x256_S16x256 (ix2 k j)
      = v (ix3 k ⟨r, hr⟩ j) := by
  pointwise

/-- What one block of the result holds: at the place of a column that column, at the other places zero. -/
def placed (x : Vec F S256x4096 .f32) : Vec F S17296x256 .f32 := fun y =>
  open Classical in
  if h : ∃ c : Fin 4096, rowOf c = (y 0).val then normed x (ix2 (y 1) h.choose) else Scalar.ofBits .f32 0x00000000#32

/-- A place that some column goes to holds that column. -/
theorem placed_hit (x : Vec F S256x4096 .f32) (y : S17296x256.Idx) (c : Fin 4096) (h : rowOf c = (y 0).val) :
    placed x y = normed x (ix2 (y 1) c) := by
  have hex : ∃ c : Fin 4096, rowOf c = (y 0).val := ⟨c, h⟩
  have he : hex.choose = c := Fin.ext (rowOf_inj _ _ hex.choose.isLt c.isLt (hex.choose_spec.trans h.symm))
  unfold placed
  rw [dif_pos hex, he]

/-- A place that no column goes to holds zero. -/
theorem placed_miss (x : Vec F S256x4096 .f32) (y : S17296x256.Idx) (h : ∀ c : Fin 4096, rowOf c ≠ (y 0).val) :
    placed x y = Scalar.ofBits .f32 0x00000000#32 := by
  unfold placed
  exact dif_neg fun ⟨c, hc⟩ => h c hc

/-- A place in no run is no column's. -/
theorem not_in_run (p : ℕ) (h : ∀ r < 256, ¬(base r ≤ p ∧ p < base r + 16)) (c : Fin 4096) : rowOf c ≠ p := fun e =>
  h (c.val % 256) (Nat.mod_lt _ (by omega)) (e ▸ rowOf_mem c)

/-- An array `g` in which the first `n` runs hold their columns and every place outside them holds zero. -/
def Good (x : Vec F S256x4096 .f32) (n : ℕ) (g : S17296x256.Idx → F .f32) : Prop :=
  ∀ y : S17296x256.Idx,
    ((∃ r < n, base r ≤ (y 0).val ∧ (y 0).val < base r + 16) → g y = placed x y)
      ∧ ((∀ r < n, ¬(base r ≤ (y 0).val ∧ (y 0).val < base r + 16)) → g y = Scalar.ofBits .f32 0x00000000#32)

/-- With all 256 runs in place the array is the block of the result. -/
theorem Good.eq_placed {x : Vec F S256x4096 .f32} {g : S17296x256.Idx → F .f32} (h : Good x 256 g) : g = placed x := by
  funext y
  by_cases hr : ∃ r < 256, base r ≤ (y 0).val ∧ (y 0).val < base r + 16
  · exact (h y).1 hr
  · have hr' : ∀ r < 256, ¬(base r ≤ (y 0).val ∧ (y 0).val < base r + 16) := fun r h₀ h₁ => hr ⟨r, h₀, h₁⟩
    rw [(h y).2 hr', placed_miss x y (not_in_run _ hr')]

variable {κ : Kind} {sp : Space} (vw : View sig κ sp S17296x256 .f32) (f : vw.ty.Contents (Elt F))

/-- The first store fills the whole array with zeros. -/
theorem good_zero (x : Vec F S256x4096 .f32) (inb : ∀ a, (![0, 0] : Fin 2 → ℕ) a + S17296x256.size a ≤ S17296x256.size a) :
    Good x 0 (vw.read (Elt F) (vw.writes (Elt F) f [⟨Rect.unit (s := S17296x256) ![0, 0] S17296x256.size inb, k0_pay3⟩])) := by
  refine fun y => ⟨fun ⟨r, hr, _⟩ => absurd hr (Nat.not_lt_zero r), fun _ => ?_⟩
  exact View.read_writes_cons_rows_of_mem vw f inb k0_pay3 [] y y rfl (Nat.zero_add _).symm rfl

/-- One more store puts run `n` in its place and leaves the others as they are. -/
theorem good_succ (x : Vec F S256x4096 .f32) (n b : ℕ) (hb : b = base n) (hn : n < 256)
    (inb : ∀ a, (![b, 0] : Fin 2 → ℕ) a + S16x256.size a ≤ S17296x256.size a) (w : FVec F S16x256 .f32)
    (hs : S16x256x256.Slices ![0, n, 0] S16x1x256)
    (hw : w = shapeCast S16x256 (extractStridedSlice S16x1x256 ![0, n, 0] (k0_pay4 x) hs) shapeCasts_S16x1x256_S16x256)
    (L : List (View.Piece (Elt F) S17296x256 .f32)) (h : Good x n (vw.read (Elt F) (vw.writes (Elt F) f L))) :
    Good x (n + 1) (vw.read (Elt F) (vw.writes (Elt F) f (⟨Rect.unit (s := S17296x256) ![b, 0] S16x256.size inb, w⟩ :: L))) := by
  subst hb hw
  intro y
  by_cases hy : base n ≤ (y 0).val ∧ (y 0).val < base n + 16
  · refine ⟨fun _ => ?_, fun hno => absurd hy (hno n (Nat.lt_succ_self n))⟩
    have hk : (y 0).val - base n < 16 := by omega
    have hj : (y 1).val < 256 := (y 1).isLt
    rw [View.read_writes_cons_rows_of_mem vw f inb _ L y (ix2 ⟨(y 0).val - base n, hk⟩ ⟨(y 1).val, hj⟩) rfl
      (Nat.add_sub_cancel' hy.1).symm rfl, run_apply _ n hn hs, layers_apply]
    refine (placed_hit x y ⟨colOf n ((y 0).val - base n), colOf_lt _ _ hn⟩ ?_).symm
    rw [rowOf_colOf n _ hn hk, Nat.add_sub_cancel' hy.1]
  · rw [View.read_writes_cons_rows_of_not_mem vw f inb _ L y rfl (W := 16) rfl (by omega)]
    refine ⟨fun ⟨r, hr, hm⟩ => (h y).1 ⟨r, ?_, hm⟩, fun hno => (h y).2 fun r hr => hno r (Nat.lt_succ_of_lt hr)⟩
    rcases Nat.lt_succ_iff_lt_or_eq.1 hr with hlt | rfl
    · exact hlt
    · exact absurd hm hy

end Cert.Block

end
-- ==== Proof.Body.lean ====
/-
  ONE CALL OF THE KERNEL'S BODY.

  The body, run on a block of the feature array, leaves that block as it is and fills its block of the result: a store of
  zeros, then 256 stores of sixteen places each, one for every value of a column's low eight bits.
-/
module

public import proofs.«01_k».proof.Proof.Gen.KernelIdeal.Frame
public import proofs.«01_k».proof.Proof.Block
public import Idealize.ShloMosaic.Lib.VecWindow

@[expose] public section

set_option maxRecDepth 16384

noncomputable section

namespace Cert.Run

open Cert.KernelIdeal Cert.KernelIdeal.Gen Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: from the block `x` and a result block of any contents to the block `x` and the result block
`placed x`. -/
theorem body_triple (c : Dev nD) (i : grid0.Coords) (arg1 : Memref sig .tc .vmem S256x4096 .f32) (harg1 : arg1.IsWhole)
    (arg2 : Memref sig .tc .vmem S17296x256 .f32) (harg2 : arg2.IsWhole) (x : Vec F S256x4096 .f32) (E : Set ℕ)
    (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (placed x)) -∗ K ⟨⟩))
      ⊢ wp frame (wpE (defs₀ (F := F)) Variants.none c none) E (cc0__block_kernel i arg1 harg1 arg2 harg2) K := by
  simp only [cc0__block_kernel_eq_skeleton]
  unfold cc0__block_kernel_skel
  simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _
    isplitr
    · ipureintro
      exact harg1.read_unread _
    iexact H0
  iexists _
  isplitr
  swap
  · iexact H1
  ipureintro
  have hX : View.readAt (Elt F) arg1.view (Rect.unit ![0, 0] S256x4096.size inb_S256x4096_S256x4096_0_0).toLoadRect
      (harg1.unread x) = x :=
    (View.readAt_full _ _ _).trans hf0
  refine (Good.eq_placed (x := View.readAt (Elt F) arg1.view
    (Rect.unit ![0, 0] S256x4096.size inb_S256x4096_S256x4096_0_0).toLoadRect (harg1.unread x)) ?_).trans (congrArg placed hX)
  -- the runs, the last stored first: each is run `n` of the layers at place `base n`
  iterate 256
    refine good_succ arg2.view f1 _ _ _ ?_ (by decide) _ _ ?_ ?_ _ ?_
    · decide +kernel
    · decide
    · rfl
  exact good_zero arg2.view f1 _ _

end Cert.Run

end
-- ==== Proof.Run.lean ====
/-
  THE KERNEL'S RUN.

  The sixteen blocks are independent: at point `t` the body reads block `t` of the feature array and fills block `t` of the
  scattered array. From the body's triple follow the launch, the contents of every array at the end, and that the
  arguments are unchanged and every counter is back at zero.
-/
module

public import proofs.«01_k».proof.Proof.Body
public import Idealize.ShloMosaic.Lib.Claim
public import Idealize.ShloMosaic.Lib.Pipeline.ValueKit

@[expose] public section

set_option maxRecDepth 16384

noncomputable section

namespace Cert.Run

open Cert.KernelIdeal Cert.KernelIdeal.Gen Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline works on, on core `c`: the arrays as the launch finds them; after the body at point `t` the input's
buffer at its block and the output's at that block placed; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => placed (iblk m c 0 t)
  Φ _ := Pipeline.ΦA spec0 c
  q _ := fullShare
  owed _ := 0

/-- Every array is taken as the launch finds it. -/
theorem dats_A (c : Dev nD) (w : Fin cfg0.W) : (dats m 0 c).A w = V m c (Pipeline.arrRef spec0 w) := by
  dsimp only [dats]

/-- The body leaves its input block as it is. -/
theorem after_in (c : Dev nD) (t : Fin cfg0.N) : (dats m 0 c).after 0 t = iblk m c 0 t := by dsimp only [dats]

/-- The body leaves its output block at the block of the result. -/
theorem after_out (c : Dev nD) (t : Fin cfg0.N) : (dats m 0 c).after 1 t = placed (iblk m c 0 t) := by dsimp only [dats]

/-- The body finds the input block of its point. -/
theorem before_in (c : Dev nD) (t : Fin cfg0.N) (d) : (dats m 0 c).before 0 t d = iblk m c 0 t :=
  before0_0_of m (dats m 0 c) (dats_A m c 0) (after_in m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (body_triple c (grid0.coords t) _ _ _ _ (iblk m c 0 t) Set.univ _)
  isplitl [H0]
  · iexact H0
  isplitl [H1]
  · iexists _
    iexact H1
  iintro ⟨H0, H1⟩
  isplitl [HΦ]
  · iexact HΦ
  isplitl [Ho]
  · iexact Ho
  isplitl [H0]
  · iexact H0
  iexact H1

/-- The body that the pipeline calls at point `t`. -/
theorem body_row (t : Fin cfg0.N) : defs₀ (F := F) .tc cfg0.body (cfg0.bodyArgs t (cfg0.slots t)) = bodyAt0 t := by
  unfold defs₀
  rw [Defs.onTc_tc]

/-- The body does at every point what the pipeline asks of it. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- Every fair execution ends, with the arrays as the blocks leave them, the later operations applied, and every counter
at zero. -/
theorem run_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The same, of the arrays alone. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end as they began. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (dats_A m) (run_main m ρ)

/-- The arguments end as they began and every counter ends at zero. -/
theorem frame_kernel : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.Run

end
-- ==== Proof.Printed.lean ====
/-
  THE KERNEL AS PRINTED is, word for word, the program that is read over the extended reals: what was proved of that program
  at any float values is true of it.
-/
module

public import proofs.«01_k».proof.Proof.Gen.Kernel
public import proofs.«01_k».proof.Proof.Run

@[expose] public section

set_option maxRecDepth 65536

noncomputable section

namespace Cert.Printed

open Idealize.ShloMosaic Idealize.ShloMosaic.TcCoe Idealize.SL.Sem

variable {F : FTy → Type} [FloatOps F]

/-- The two tables of bodies are one. -/
theorem bodies_eq : @Cert.Kernel.defs₀ F _ Cert.Kernel.Gen.facts = @Cert.KernelIdeal.defs₀ F _ Cert.KernelIdeal.Gen.facts := by
  refine congrArg Defs.onTc (funext fun l => funext fun a => ?_)
  match l, a with
  | 0, (t, s) => rfl
  | ⟨_ + 1, h⟩, _ => exact absurd h (Nat.not_lt.2 (Nat.le_add_left _ _))

/-- So are the tables with the pipeline added. -/
theorem defs_eq : @Cert.Kernel.defs F _ Cert.Kernel.Gen.facts = @Cert.KernelIdeal.defs F _ Cert.KernelIdeal.Gen.facts :=
  congrArg (fun d => Pipeline.defs (Cert.Kernel.pcfgs (F := F)) d) bodies_eq

open Cert.Kernel Cert.Kernel.Gen in
/-- The printed kernel's arguments end as they began and every counter ends at zero. -/
theorem frame_kernel (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) := by
  rw [defs_eq]
  exact Cert.Run.frame_kernel (F := F) m ρ

end Cert.Printed

end
-- ==== Proof.Model.lean ====
/-
  WHAT THE PROGRAMS ARE TO COMPUTE, as one function of the feature array, over the extended reals.
-/
module

public import proofs.«01_k».proof.Proof.Rows
public import Idealize.ShloMosaic.Lib.Pointwise

@[expose] public section

noncomputable section

namespace Cert.Model

open Idealize.ShloMosaic Cert.Rows

/-- A square array of 4096 rows of 4096 extended reals. -/
abbrev Square : Type := (⟨2, ![4096, 4096]⟩ : Shape).Idx → EReal

/-- Element `(i, c)` of the array divided by the larger of its row's norm and a small number. -/
def normalised (x : Square) (i c : Fin 4096) : EReal :=
  Ideal.div (x (ix2 i c)) (max (Ideal.sqrt (∑ k : Fin 4096, x (ix2 i k) * x (ix2 i k))) (Ideal.ofBits .f32 0x2B8CBCCC#32))

/-- Element `(i, p)` of the result: the normalised column that goes to place `p`, or zero if there is none. -/
def scattered (x : Square) (i : Fin 4096) (p : Fin 17296) : EReal :=
  open Classical in if h : ∃ c : Fin 4096, rowOf c = p.val then normalised x i h.choose else 0

/-- At a place that column `c` goes to the result is that column, normalised. -/
theorem scattered_hit (x : Square) (i c : Fin 4096) (p : Fin 17296) (h : rowOf c = p.val) :
    scattered x i p = normalised x i c := by
  have hex : ∃ c : Fin 4096, rowOf c = p.val := ⟨c, h⟩
  have he : hex.choose = c := Fin.ext (rowOf_inj _ _ hex.choose.isLt c.isLt (hex.choose_spec.trans h.symm))
  unfold scattered
  rw [dif_pos hex, he]

/-- At a place that no column goes to it is zero. -/
theorem scattered_miss (x : Square) (i : Fin 4096) (p : Fin 17296) (h : ∀ c : Fin 4096, rowOf c ≠ p.val) :
    scattered x i p = 0 := by
  unfold scattered
  exact dif_neg fun ⟨c, hc⟩ => h c hc

end Cert.Model

end
-- ==== Proof.KernelValue.lean ====
/-
  WHAT THE KERNEL'S RESULT HOLDS, over the extended reals.

  Block `t` of the feature array is its rows `256 t` to `256 t + 255`; the body places that block's normalised columns in
  columns `256 t` to `256 t + 255` of the scattered array. The blocks together fill the scattered array, and the last
  operation turns it over.
-/
module

public import proofs.«01_k».proof.Proof.Run
public import proofs.«01_k».proof.Proof.Model

@[expose] public section

set_option maxRecDepth 16384

noncomputable section

namespace Cert.KernelValue

open Cert.KernelIdeal Cert.KernelIdeal.Gen Cert.Block Cert.Run Cert.Model Cert.Rows
open Idealize.ShloMosaic Idealize.ShloMosaic.TcCoe Idealize.ShloMosaic.Tactic
open Idealize.SL Idealize.SL.Sem
open Idealize.ShloMosaic.Pipeline (Dat)

/-- A block's divided row at a column, over the extended reals. -/
theorem normed_apply (x : Vec Ideal S256x4096 .f32) (j : Fin 256) (c : Fin 4096) :
    normed x (ix2 j c)
      = Ideal.div (x (ix2 j c)) (max (Ideal.sqrt (∑ k : Fin 4096, x (ix2 j k) * x (ix2 j k))) (Ideal.ofBits .f32 0x2B8CBCCC#32)) := by
  pointwise [normed]

/-- The block of a result whose input block is rows of `x`: at row `j` of the block, row `I` of `x`. -/
theorem placed_apply (b : Vec Ideal S256x4096 .f32) (x : Square) (j : Fin 256) (I : Fin 4096)
    (h : ∀ k : Fin 4096, b (ix2 j k) = x (ix2 I k)) (p : Fin 17296) : placed b (ix2 p j) = scattered x I p := by
  by_cases hp : ∃ c : Fin 4096, rowOf c = p.val
  · obtain ⟨c, hc⟩ := hp
    rw [placed_hit b (ix2 p j) c hc, scattered_hit x I c p hc]
    refine (normed_apply b j c).trans ?_
    unfold normalised
    simp only [h]
  · have hp' : ∀ c : Fin 4096, rowOf c ≠ p.val := fun c hc => hp ⟨c, hc⟩
    rw [placed_miss b (ix2 p j) hp', scattered_miss x I p hp']
    exact Ideal.ofBits_zero_f32

variable (m : (ℓ : Loc nD τ sig) → Buf (Elt Ideal) ℓ) (ρ : Dev nD → PrngReg)

/-- The feature array of core `c` at the launch. -/
abbrev features (c : Dev nD) : Square := m ((c : Thread nD τ).loc main_arg0)

/-- The input's window moves one block per point along its rows. -/
theorem index_in : ∀ t : Fin cfg0.N, win0_0.index t = ![t.val, 0] := (by decide +kernel : ∀ t : Fin grid0.N, _)
/-- The output's window moves one block per point along its columns. -/
theorem index_out : ∀ t : Fin cfg0.N, win0_1.index t = ![0, t.val] := (by decide +kernel : ∀ t : Fin grid0.N, _)

/-- Row `j` of block `t` of the feature array is its row `256 t + j`. -/
theorem block_apply (c : Dev nD) (t : Fin cfg0.N) (j : Fin 256) (I k : Fin 4096) (hI : I.val = t.val * 256 + j.val) :
    iblk m c 0 t (ix2 j k) = features m c (ix2 I k) := by
  unfold iblk
  blk_simp
  refine congrArg (features m c) ?_
  blk_ext [index_in]

/-- The scattered array, when every block is in place. -/
theorem array_eq (c : Dev nD) :
    (dats m 0 c).arrAt 1 cfg0.N = fun y : S17296x4096.Idx => scattered (features m c) (y 1) (y 0) := by
  refine (dats m 0 c).arrAt_eq_of_covers 1 _ (by decide +kernel) fun t hf y => ?_
  blk_simp
  rw [after_out]
  obtain ⟨p, j, rfl⟩ : ∃ (p : Fin 17296) (j : Fin 256), y = ix2 p j := ⟨y 0, y 1, eq_ix2 y⟩
  have h0 : (win0_1.blk t).view.emb (ix2 p j) 0 = p := Fin.ext (by blk_simp [index_out])
  have h1 : ((win0_1.blk t).view.emb (ix2 p j) 1).val = t.val * 256 + j.val := by blk_simp [index_out]
  rw [h0]
  exact placed_apply _ _ _ _ (fun k => block_apply m c t j _ k h1) p

/-- The result of the whole program: the scattered array turned over. -/
theorem result_eq (c : Dev nD) :
    Pipeline.afterTail₀ cfgs (dats m) 0 (V0 m) [hostOps1] c main_v1
      = fun y : S4096x17296.Idx => scattered (features m c) (y 0) (y 1) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.tc.devRef main_v0) = _ from
    Pipeline.withArrays_arr (cfgs 0).spec (by decide) c (V0 m c) (fun w => (dats m 0 c).arrAt w (cfgs 0).N) 1]
  rw [array_eq m c]
  funext y
  pointwise

/-- Every fair execution ends with the result at the scattered normalised features and the arguments as they began. -/
theorem run_result : θ_run defs (onTc (τ := τ) (main (F := Ideal))) ⟨m, fun _ => 0, ρ⟩ (fun r => ∀ c : Dev nD,
    r.2.mem ((c.tc : Thread nD τ).loc main_v1) = (fun y : S4096x17296.Idx => scattered (features m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v1 (Pipeline.mem_restRefs_of main_v1 (by decide) (by decide))).trans
    (result_eq m c), h.2 c⟩) (θ_run_and (run_main m ρ) (unchanged m ρ))

end Cert.KernelValue

end
-- ==== Proof.Precondition.lean ====
/-
  WHAT THE PRECONDITION SAYS: the word at each column is the row that the kernel places that column in.
-/
module

public import proofs.«01_k».proof.Proof.Gen.Pre_fixed_rows
public import proofs.«01_k».proof.Proof.Rows
public import Idealize.ShloMosaic.Lib.ReduceAll
public import Idealize.ShloMosaic.Lib.Affine
public import Idealize.ShloMosaic.Lib.Pointwise

@[expose] public section

set_option maxRecDepth 16384

namespace Cert.Precondition

open Cert.Pre_fixed_rows Cert.Rows
open Idealize.ShloMosaic

/-- Entry `c` of the required words is the row of column `c`. -/
theorem word_eq : ∀ c : Fin 4096, lit0 c = BitVec.ofNat 32 (rowOf c) := by
  decide +kernel

/-- Where the precondition holds, the word at column `c` is the row of column `c`. -/
theorem row_word {F : FTy → Type} [FloatOps F] (x : FVec F S4096x4096 .f32) (w : IVec S4096 32)
    (h : fn x w = fun _ => 1#1) (c : Fin 4096) : w (ix1 c) = BitVec.ofNat 32 (rowOf c) := by
  have e := congrFun h ix0
  dsimp only [fn] at e
  have q := Host.reduce_andi_all _ _ _ _ _ e (ix1 c)
  have hr : (S4096.rowMajor (ix1 c) : Fin 4096) = c := Fin.ext (Shape.rowMajor_val_one (ix1 c))
  exact (IntOp.cmpi_eq.1 q).trans ((congrArg lit0 hr).trans (word_eq c))

end Cert.Precondition

end
-- ==== Proof.ReferenceValue.lean ====
/-
  WHAT THE REFERENCE COMPUTES, over the extended reals, where the words name the rows that the kernel places its columns in:
  the same array of scattered normalised features.
-/
module

public import proofs.«01_k».proof.Proof.Gen.ReferenceIdeal.Run
public import proofs.«01_k».proof.Proof.Model
public import Idealize.ShloMosaic.Lib.Routing.OpsSet
public import Idealize.ShloMosaic.Lib.Routing.OpsPair

@[expose] public section

set_option maxRecDepth 16384

noncomputable section

namespace Cert.ReferenceValue

open Cert.ReferenceIdeal Cert.ReferenceIdeal.Gen Cert.Model Cert.Rows
open Idealize.ShloMosaic Idealize.ShloMosaic.TcCoe Idealize.ShloMosaic.Tactic
open Idealize.SL Idealize.SL.Sem

/-- The normalised features as the reference writes them. -/
def updates (x : FVec Ideal S4096x4096 .f32) : FVec Ideal S4096x4096 .f32 :=
  Host.divf x (broadcastInDim S4096x4096 ![0, 1] bcast_S4096x1_S4096x4096_0_1
    (maximumf (Host.sqrt (broadcastInDim S4096x1 ![0] bcast_S4096_S4096x1_0
        (Host.reduceAdd (mulf x x) (constant S_ .f32 0x00000000#32) reducesTo_S4096x4096_S4096_d1 h_S_)))
      (broadcastInDim S4096x1 ![] bcast_S_S4096x1 (constant S_ .f32 0x2B8CBCCC#32))))

/-- The reference's index words: a negative word counts from the end. -/
def places (w : IVec S4096 32) : IVec S4096x1 32 :=
  broadcastInDim S4096x1 ![0] bcast_S4096_S4096x1_0
    (select (cmpi .slt w (broadcastInDim S4096 ![] bcast_S_S4096 (constantI S_ 32 0#32)))
      (addi w (broadcastInDim S4096 ![] bcast_S_S4096 (constantI S_ 32 17296#32))) w)

/-- The reference's element `(i, c)` of the normalised features. -/
theorem updates_apply (x : FVec Ideal S4096x4096 .f32) (i c : Fin 4096) : updates x (ix2 i c) = normalised x i c := by
  pointwise [updates, normalised]

/-- A word that names a row keeps its value. -/
theorem places_apply (w : IVec S4096 32) (h : ∀ c : Fin 4096, w (ix1 c) = BitVec.ofNat 32 (rowOf c)) (c : Fin 4096) :
    (places w (ix2 c (0 : Fin 1))).toInt = (rowOf c : Int) := by
  have hlt := rowOf_lt c
  pointwise [places]
  have hn : (BitVec.ofNat 32 (rowOf c)).toNat = rowOf c := by rw [BitVec.toNat_ofNat]; exact Nat.mod_eq_of_lt (by omega)
  rw [h c, Routing.wrap_of_lt _ _ (by rw [hn]; omega), StableHlo.Predicate.toInt_ofNat_small _ (by omega)]

/-- Element `(a, c)` of the normalised features lands at row `a`, in the column that word `c` names. -/
theorem lands (idx : IVec S4096x1 32) (a c : Fin 4096) (k : ℕ) (hidx : (idx (ix2 c (0 : Fin 1))).toInt = (k : Int))
    (i : Fin 4096) (p : Fin 17296) :
    scatter_S4096x17296_S4096x1_S4096x4096_0_1_1_1.resultIdx? (ix2 a c) idx = some (ix2 i p) ↔ a = i ∧ k = p.val := by
  have w0 : scatter_S4096x17296_S4096x1_S4096x4096_0_1_1_1.window (ix2 a c) 0 = a.val := rfl
  have w1 : scatter_S4096x17296_S4096x1_S4096x4096_0_1_1_1.window (ix2 a c) 1 = 0 := rfl
  have s0 : scatter_S4096x17296_S4096x1_S4096x4096_0_1_1_1.start (ix2 a c) idx 0 = 0 := rfl
  have s1 : scatter_S4096x17296_S4096x1_S4096x4096_0_1_1_1.start (ix2 a c) idx 1 = (k : Int) := by
    refine Eq.trans ?_ hidx
    refine congrArg (fun z => (idx z).toInt) (eq_ix2 _ |>.trans ?_)
    rfl
  rw [Routing.resultIdx?_eq_some, Fin.forall_fin_two, w0, w1, s0, s1]
  show (0 + (a.val : Int) = (i.val : Int) ∧ (k : Int) + ((0 : ℕ) : Int) = (p.val : Int)) ↔ _
  rw [Fin.ext_iff]
  omega

/-- The reference's result: the scattered normalised features. -/
theorem scatter_eq (x : FVec Ideal S4096x4096 .f32) (w : IVec S4096 32)
    (h : ∀ c : Fin 4096, w (ix1 c) = BitVec.ofNat 32 (rowOf c)) :
    Host.scatter scatter_S4096x17296_S4096x1_S4096x4096_0_1_1_1 (fun _ b => b)
      (broadcastInDim S4096x17296 ![] bcast_S_S4096x17296 (constant (F := Ideal) S_ .f32 0x00000000#32)) (places w) (updates x)
      = fun y : S4096x17296.Idx => scattered x (y 0) (y 1) := by
  funext y
  obtain ⟨i, p, rfl⟩ : ∃ (i : Fin 4096) (p : Fin 17296), y = ix2 i p := ⟨y 0, y 1, eq_ix2 y⟩
  show _ = scattered x i p
  have hl : ∀ k : S4096x4096.Idx, scatter_S4096x17296_S4096x1_S4096x4096_0_1_1_1.resultIdx? k (places w) = some (ix2 i p) →
      k 0 = i ∧ rowOf (k 1 : Fin 4096) = p.val := fun k hk =>
    (lands (places w) (k 0) (k 1) _ (places_apply w h (k 1)) i p).1 (by rw [← eq_ix2 k]; exact hk)
  by_cases hp : ∃ c : Fin 4096, rowOf c = p.val
  · obtain ⟨c, hc⟩ := hp
    refine (Routing.scatter_set_hit _ _ _ _ _ (scattered x i p) (fun k hk => ?_) (ix2 i c)
      ((lands _ i c _ (places_apply w h c) i p).2 ⟨rfl, hc⟩))
    obtain ⟨h0, h1⟩ := hl k hk
    subst h0
    exact (congrArg (updates x) (eq_ix2 k)).trans ((updates_apply x (k 0) (k 1)).trans (scattered_hit x (k 0) (k 1) p h1).symm)
  · have hp' : ∀ c : Fin 4096, rowOf c ≠ p.val := fun c hc => hp ⟨c, hc⟩
    rw [scattered_miss x i p hp']
    refine (Routing.scatter_set_miss _ _ _ _ _ fun k hk => hp' _ (hl k hk).2).trans ?_
    exact Ideal.ofBits_zero_f32

variable (m : (ℓ : Loc nD τ sig) → Buf (Elt Ideal) ℓ) (ρ : Dev nD → PrngReg)

/-- Every fair execution of the reference ends with its result at the scattered normalised features and its arguments as they began. -/
theorem run_result
    (h : ∀ (d : Dev nD) (c : Fin 4096), (m ((d.tc : Thread nD τ).loc main_arg1) : IVec S4096 32) (ix1 c) = BitVec.ofNat 32 (rowOf c)) :
    θ_run defs (onTc (τ := τ) (main (F := Ideal))) ⟨m, fun _ => 0, ρ⟩ (fun r => ∀ c : Dev nD,
      r.2.mem ((c.tc : Thread nD τ).loc main_v15)
          = (fun y : S4096x17296.Idx => scattered (m ((c.tc : Thread nD τ).loc main_arg0)) (y 0) (y 1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ e c => ⟨(e c).1.trans (scatter_eq _ _ (h c)), (e c).2.1, (e c).2.2⟩) (Value.run (F := Ideal) m ρ)

end Cert.ReferenceValue

end
-- ==== Proof.lean ====
/-
  THE CLAIM: the kernel as printed and as read over the extended reals, and the reference, all run and leave their arguments
  and counters as they were; and the kernel and the reference compute equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fixed_rows
public import proofs.«01_k».proof.Proof.Printed
public import proofs.«01_k».proof.Proof.KernelValue
public import proofs.«01_k».proof.Proof.Precondition
public import proofs.«01_k».proof.Proof.ReferenceValue
public import Idealize.ShloMosaic.Adequacy
public import Idealize.ShloMosaic.Init

@[expose] public section

noncomputable section

namespace Cert.Proof

open Idealize.ShloMosaic Idealize.SL.Sem

/-- The reference runs, its arguments end as they began, and every counter ends at zero: it has none. -/
theorem frame_reference (m : (ℓ : Loc Cert.ReferenceIdeal.nD Cert.ReferenceIdeal.τ Cert.ReferenceIdeal.sig) → Buf (Elt Ideal) ℓ)
    (g : Dev Cert.ReferenceIdeal.nD → PrngReg) : Cert.Pre_ReferenceIdeal m →
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) := fun _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with equal results: the scattered normalised features. -/
theorem equal_results : Cert.algebraic_KernelIdeal_ReferenceIdeal_pre_fixed_rows := fun m g m' g' hpre hargs =>
  ⟨fun c y => Cert.Model.scattered (Cert.KernelValue.features m c) (y 0) (y 1), Cert.KernelValue.run_result m g,
    (θ_run Cert.ReferenceIdeal.defs _ _).mono
      (fun _ h c => ⟨(h c).1.trans (congrArg (fun (x : Cert.Model.Square) (y : Cert.KernelIdeal.S4096x17296.Idx) => Cert.Model.scattered x (y 0) (y 1)) (hargs c).1), (h c).2⟩)
      (Cert.ReferenceValue.run_result m' g' fun c k =>
        (congrFun (hargs c).2 (ix1 k)).trans (Cert.Precondition.row_word _ _ (hpre c) k))⟩

/-- All the claims of the certificate. -/
theorem claim : Cert.Claim :=
  ⟨Cert.Kernel.Gen.facts, Cert.KernelIdeal.Gen.facts, Cert.ReferenceIdeal.Gen.facts, Cert.Pre_fixed_rows.Gen.facts,
    fun m g _ => Cert.Printed.frame_kernel m g,
    fun m g _ => Cert.Run.frame_kernel m g,
    fun m g _ => Cert.Run.frame_kernel m g,
    frame_reference,
    fun m g _ => frame_reference m g trivial,
    trivial,
    equal_results⟩

end Cert.Proof

end
